-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S2x8x2x512x512 : Shape := ⟨5, ![2, 8, 2, 512, 512]⟩
abbrev S2x8x2 : Shape := ⟨3, ![2, 8, 2]⟩
abbrev S2x8 : Shape := ⟨2, ![2, 8]⟩
abbrev S_ : Shape := ⟨0, ![]⟩
abbrev S512x512 : Shape := ⟨2, ![512, 512]⟩
abbrev S1x1x1x512x512 : Shape := ⟨5, ![1, 1, 1, 512, 512]⟩
abbrev S1x1x1 : Shape := ⟨3, ![1, 1, 1]⟩
abbrev S1x1 : Shape := ⟨2, ![1, 1]⟩

abbrev nBuf : Space → Nat
  | .hbm => 3
  | .vmem => 4
  | .smem => 0
  | _ => 0

abbrev bufTy : (tb : Table) → Fin (tcTables nBuf tb) → BufTy
  | .hbm, ⟨0, _⟩ => ⟨S4096x512, .bf16⟩
  | .hbm, ⟨1, _⟩ => ⟨S512x8192, .bf16⟩
  | .hbm, ⟨2, _⟩ => ⟨S512x8192, .bf16⟩
  | .local _ .vmem, ⟨0, _⟩ => ⟨S4096x512, .bf16⟩
  | .local _ .vmem, ⟨1, _⟩ => ⟨S512x8192, .bf16⟩
  | .local _ .vmem, ⟨2, _⟩ => ⟨S512x8192, .bf16⟩
  | .local _ .vmem, ⟨3, _⟩ => ⟨S2x8x2x512x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 17 67 bufScoped semScoped dmaSemScoped tileCredit tileCredit_eq_zero tileCredit_pos).withBarriers [(0, 16)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 16

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_8 : BitVec 32 := 1#32
  let v11 : BitVec 32 := Scalar.muli v4 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c512_i32 : BitVec 32 := 512#32
  let v13 : BitVec 32 := Scalar.muli v7 c512_i32
  let v14 : Index := Scalar.indexCast v13
  let c0 : Index := 0#32
  ![v14.toNat, 0]
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_29 : BitVec 32 := 1#32
  let v24 : BitVec 32 := Scalar.muli v4 c1_i32_29
  let v25 : BitVec 32 := Scalar.addi c0_i32_30 v24
  v25.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c512_i32_35 : BitVec 32 := 512#32
  let v34 : BitVec 32 := Scalar.muli v4 c512_i32_35
  let v35 : Index := Scalar.indexCast v34
  let c0_36 : Index := 0#32
  ![v35.toNat, 0]
def k0_dev4 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_55 : BitVec 32 := 1#32
  let v45 : BitVec 32 := Scalar.muli v7 c1_i32_55
  let v46 : BitVec 32 := Scalar.addi c0_i32_56 v45
  v46.toNat
def k0_dev5 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_82 : BitVec 32 := 1#32
  let v66 : BitVec 32 := Scalar.muli v4 c1_i32_82
  let v67 : BitVec 32 := Scalar.addi c0_i32_83 v66
  v67.toNat
def k0_dev6 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_109 : BitVec 32 := 1#32
  let v87 : BitVec 32 := Scalar.muli v7 c1_i32_109
  let v88 : BitVec 32 := Scalar.addi c0_i32_110 v87
  v88.toNat
def k0_dev7 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_135 : BitVec 32 := 1#32
  let v108 : BitVec 32 := Scalar.muli v4 c1_i32_135
  let v109 : BitVec 32 := Scalar.addi c0_i32_136 v108
  v109.toNat
def k0_dev8 (d0 : Dev nD) : Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_162 : BitVec 32 := 1#32
  let v129 : BitVec 32 := Scalar.muli v7 c1_i32_162
  let v130 : BitVec 32 := Scalar.addi c0_i32_163 v129
  v130.toNat
def k0_dev9 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_187 : BitVec 32 := 1#32
  let v150 : BitVec 32 := Scalar.muli v4 c1_i32_187
  let v151 : BitVec 32 := Scalar.addi c0_i32_188 v150
  v151.toNat
def k0_dev10 (d0 : Dev nD) : Nat :=
  let c0_i32_215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_214 : BitVec 32 := 1#32
  let v171 : BitVec 32 := Scalar.muli v7 c1_i32_214
  let v172 : BitVec 32 := Scalar.addi c0_i32_215 v171
  v172.toNat
def k0_dev11 (d0 : Dev nD) : Nat :=
  let c0_i32_240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_239 : BitVec 32 := 1#32
  let v192 : BitVec 32 := Scalar.muli v4 c1_i32_239
  let v193 : BitVec 32 := Scalar.addi c0_i32_240 v192
  v193.toNat
def k0_dev12 (d0 : Dev nD) : Nat :=
  let c0_i32_267 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_266 : BitVec 32 := 1#32
  let v213 : BitVec 32 := Scalar.muli v7 c1_i32_266
  let v214 : BitVec 32 := Scalar.addi c0_i32_267 v213
  v214.toNat
def k0_dev13 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_291 : BitVec 32 := 1#32
  let v234 : BitVec 32 := Scalar.muli v4 c1_i32_291
  let v235 : BitVec 32 := Scalar.addi c0_i32_292 v234
  v235.toNat
def k0_dev14 (d0 : Dev nD) : Nat :=
  let c0_i32_319 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_318 : BitVec 32 := 1#32
  let v255 : BitVec 32 := Scalar.muli v7 c1_i32_318
  let v256 : BitVec 32 := Scalar.addi c0_i32_319 v255
  v256.toNat
def k0_dev15 (d0 : Dev nD) : Nat :=
  let c0_i32_344 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_343 : BitVec 32 := 1#32
  let v276 : BitVec 32 := Scalar.muli v4 c1_i32_343
  let v277 : BitVec 32 := Scalar.addi c0_i32_344 v276
  v277.toNat
def k0_dev16 (d0 : Dev nD) : Nat :=
  let c0_i32_371 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_370 : BitVec 32 := 1#32
  let v297 : BitVec 32 := Scalar.muli v7 c1_i32_370
  let v298 : BitVec 32 := Scalar.addi c0_i32_371 v297
  v298.toNat
def k0_dev17 (d0 : Dev nD) : Nat :=
  let c0_i32_396 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_395 : BitVec 32 := 1#32
  let v318 : BitVec 32 := Scalar.muli v4 c1_i32_395
  let v319 : BitVec 32 := Scalar.addi c0_i32_396 v318
  v319.toNat
def k0_dev18 (d0 : Dev nD) : Nat :=
  let c0_i32_423 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_422 : BitVec 32 := 1#32
  let v339 : BitVec 32 := Scalar.muli v7 c1_i32_422
  let v340 : BitVec 32 := Scalar.addi c0_i32_423 v339
  v340.toNat
def k0_dev19 (d0 : Dev nD) : Nat :=
  let c0_i32_467 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_466 : BitVec 32 := 1#32
  let v365 : BitVec 32 := Scalar.muli v7 c1_i32_466
  let v366 : BitVec 32 := Scalar.addi c0_i32_467 v365
  v366.toNat
def k0_off3 (d0 : Dev nD) (c0_i32_469 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v367 : BitVec 32 := Scalar.addi v2 c16_i32
  let c2_i32_468 : BitVec 32 := 2#32
  let v368 : BitVec 32 := Scalar.subi v367 c2_i32_468
  let v369 : BitVec 32 := Scalar.subi v368 c0_i32_469
  let c8_i32_470 : BitVec 32 := 8#32
  let v370 : BitVec 32 := Scalar.remsi v369 c8_i32_470
  let c512_i32_476 : BitVec 32 := 512#32
  let v374 : BitVec 32 := Scalar.muli v370 c512_i32_476
  let v375 : Index := Scalar.indexCast v374
  let c0_477 : Index := 0#32
  ![v375.toNat, 0]
def k0_dev20 (d0 : Dev nD) : Nat :=
  let c0_i32_503 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_502 : BitVec 32 := 1#32
  let v388 : BitVec 32 := Scalar.muli v4 c1_i32_502
  let v389 : BitVec 32 := Scalar.addi c0_i32_503 v388
  v389.toNat
def k0_dev21 (d0 : Dev nD) : Nat :=
  let c0_i32_547 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_546 : BitVec 32 := 1#32
  let v414 : BitVec 32 := Scalar.muli v4 c1_i32_546
  let v415 : BitVec 32 := Scalar.addi c0_i32_547 v414
  v415.toNat
def k0_off4 (d0 : Dev nD) (c0_i32_549 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_548 : BitVec 32 := 2#32
  let v416 : BitVec 32 := Scalar.addi v2 c2_i32_548
  let v417 : BitVec 32 := Scalar.addi v416 c0_i32_549
  let c8_i32_550 : BitVec 32 := 8#32
  let v418 : BitVec 32 := Scalar.remsi v417 c8_i32_550
  let c512_i32_556 : BitVec 32 := 512#32
  let v422 : BitVec 32 := Scalar.muli v418 c512_i32_556
  let v423 : Index := Scalar.indexCast v422
  let c0_557 : Index := 0#32
  ![v423.toNat, 0]
def k0_dev22 (d0 : Dev nD) : Nat :=
  let c0_i32_583 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_582 : BitVec 32 := 1#32
  let v436 : BitVec 32 := Scalar.muli v7 c1_i32_582
  let v437 : BitVec 32 := Scalar.addi c0_i32_583 v436
  v437.toNat
def k0_dev23 (d0 : Dev nD) : Nat :=
  let c0_i32_627 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_626 : BitVec 32 := 1#32
  let v462 : BitVec 32 := Scalar.muli v7 c1_i32_626
  let v463 : BitVec 32 := Scalar.addi c0_i32_627 v462
  v463.toNat
def k0_dev24 (d0 : Dev nD) : Nat :=
  let c0_i32_664 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_663 : BitVec 32 := 1#32
  let v485 : BitVec 32 := Scalar.muli v4 c1_i32_663
  let v486 : BitVec 32 := Scalar.addi c0_i32_664 v485
  v486.toNat
def k0_dev25 (d0 : Dev nD) : Nat :=
  let c0_i32_708 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_707 : BitVec 32 := 1#32
  let v511 : BitVec 32 := Scalar.muli v4 c1_i32_707
  let v512 : BitVec 32 := Scalar.addi c0_i32_708 v511
  v512.toNat
def k0_dev26 (d0 : Dev nD) : Nat :=
  let c0_i32_744 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_743 : BitVec 32 := 1#32
  let v533 : BitVec 32 := Scalar.muli v7 c1_i32_743
  let v534 : BitVec 32 := Scalar.addi c0_i32_744 v533
  v534.toNat
def k0_dev27 (d0 : Dev nD) : Nat :=
  let c0_i32_788 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_787 : BitVec 32 := 1#32
  let v559 : BitVec 32 := Scalar.muli v7 c1_i32_787
  let v560 : BitVec 32 := Scalar.addi c0_i32_788 v559
  v560.toNat
def k0_dev28 (d0 : Dev nD) : Nat :=
  let c0_i32_825 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_824 : BitVec 32 := 1#32
  let v582 : BitVec 32 := Scalar.muli v4 c1_i32_824
  let v583 : BitVec 32 := Scalar.addi c0_i32_825 v582
  v583.toNat
def k0_dev29 (d0 : Dev nD) : Nat :=
  let c0_i32_869 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_868 : BitVec 32 := 1#32
  let v608 : BitVec 32 := Scalar.muli v4 c1_i32_868
  let v609 : BitVec 32 := Scalar.addi c0_i32_869 v608
  v609.toNat
def k0_dev30 (d0 : Dev nD) : Nat :=
  let c0_i32_905 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_904 : BitVec 32 := 1#32
  let v630 : BitVec 32 := Scalar.muli v7 c1_i32_904
  let v631 : BitVec 32 := Scalar.addi c0_i32_905 v630
  v631.toNat
def k0_dev31 (d0 : Dev nD) : Nat :=
  let c0_i32_949 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_948 : BitVec 32 := 1#32
  let v656 : BitVec 32 := Scalar.muli v7 c1_i32_948
  let v657 : BitVec 32 := Scalar.addi c0_i32_949 v656
  v657.toNat
def k0_dev32 (d0 : Dev nD) : Nat :=
  let c0_i32_986 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_985 : BitVec 32 := 1#32
  let v679 : BitVec 32 := Scalar.muli v4 c1_i32_985
  let v680 : BitVec 32 := Scalar.addi c0_i32_986 v679
  v680.toNat
def k0_dev33 (d0 : Dev nD) : Nat :=
  let c0_i32_1030 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1029 : BitVec 32 := 1#32
  let v705 : BitVec 32 := Scalar.muli v4 c1_i32_1029
  let v706 : BitVec 32 := Scalar.addi c0_i32_1030 v705
  v706.toNat
def k0_dev34 (d0 : Dev nD) : Nat :=
  let c0_i32_1066 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1065 : BitVec 32 := 1#32
  let v727 : BitVec 32 := Scalar.muli v7 c1_i32_1065
  let v728 : BitVec 32 := Scalar.addi c0_i32_1066 v727
  v728.toNat
def k0_dev35 (d0 : Dev nD) : Nat :=
  let c0_i32_1110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1109 : BitVec 32 := 1#32
  let v753 : BitVec 32 := Scalar.muli v7 c1_i32_1109
  let v754 : BitVec 32 := Scalar.addi c0_i32_1110 v753
  v754.toNat
def k0_dev36 (d0 : Dev nD) : Nat :=
  let c0_i32_1147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1146 : BitVec 32 := 1#32
  let v776 : BitVec 32 := Scalar.muli v4 c1_i32_1146
  let v777 : BitVec 32 := Scalar.addi c0_i32_1147 v776
  v777.toNat
def k0_dev37 (d0 : Dev nD) : Nat :=
  let c0_i32_1191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1190 : BitVec 32 := 1#32
  let v802 : BitVec 32 := Scalar.muli v4 c1_i32_1190
  let v803 : BitVec 32 := Scalar.addi c0_i32_1191 v802
  v803.toNat
def k0_dev38 (d0 : Dev nD) : Nat :=
  let c0_i32_1227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1226 : BitVec 32 := 1#32
  let v824 : BitVec 32 := Scalar.muli v7 c1_i32_1226
  let v825 : BitVec 32 := Scalar.addi c0_i32_1227 v824
  v825.toNat
def k0_dev39 (d0 : Dev nD) : Nat :=
  let c0_i32_1271 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1270 : BitVec 32 := 1#32
  let v850 : BitVec 32 := Scalar.muli v7 c1_i32_1270
  let v851 : BitVec 32 := Scalar.addi c0_i32_1271 v850
  v851.toNat
def k0_dev40 (d0 : Dev nD) : Nat :=
  let c0_i32_1308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1307 : BitVec 32 := 1#32
  let v873 : BitVec 32 := Scalar.muli v4 c1_i32_1307
  let v874 : BitVec 32 := Scalar.addi c0_i32_1308 v873
  v874.toNat
def k0_dev41 (d0 : Dev nD) : Nat :=
  let c0_i32_1352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1351 : BitVec 32 := 1#32
  let v899 : BitVec 32 := Scalar.muli v4 c1_i32_1351
  let v900 : BitVec 32 := Scalar.addi c0_i32_1352 v899
  v900.toNat
def k0_dev42 (d0 : Dev nD) : Nat :=
  let c0_i32_1388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1387 : BitVec 32 := 1#32
  let v921 : BitVec 32 := Scalar.muli v7 c1_i32_1387
  let v922 : BitVec 32 := Scalar.addi c0_i32_1388 v921
  v922.toNat
def k0_dev43 (d0 : Dev nD) : Nat :=
  let c0_i32_1432 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1431 : BitVec 32 := 1#32
  let v947 : BitVec 32 := Scalar.muli v7 c1_i32_1431
  let v948 : BitVec 32 := Scalar.addi c0_i32_1432 v947
  v948.toNat
def k0_dev44 (d0 : Dev nD) : Nat :=
  let c0_i32_1469 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1468 : BitVec 32 := 1#32
  let v970 : BitVec 32 := Scalar.muli v4 c1_i32_1468
  let v971 : BitVec 32 := Scalar.addi c0_i32_1469 v970
  v971.toNat
def k0_dev45 (d0 : Dev nD) : Nat :=
  let c0_i32_1513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1512 : BitVec 32 := 1#32
  let v996 : BitVec 32 := Scalar.muli v4 c1_i32_1512
  let v997 : BitVec 32 := Scalar.addi c0_i32_1513 v996
  v997.toNat
def k0_dev46 (d0 : Dev nD) : Nat :=
  let c0_i32_1549 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1548 : BitVec 32 := 1#32
  let v1018 : BitVec 32 := Scalar.muli v7 c1_i32_1548
  let v1019 : BitVec 32 := Scalar.addi c0_i32_1549 v1018
  v1019.toNat
def k0_dev47 (d0 : Dev nD) : Nat :=
  let c0_i32_1593 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1592 : BitVec 32 := 1#32
  let v1044 : BitVec 32 := Scalar.muli v7 c1_i32_1592
  let v1045 : BitVec 32 := Scalar.addi c0_i32_1593 v1044
  v1045.toNat
def k0_dev48 (d0 : Dev nD) : Nat :=
  let c0_i32_1630 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1629 : BitVec 32 := 1#32
  let v1067 : BitVec 32 := Scalar.muli v4 c1_i32_1629
  let v1068 : BitVec 32 := Scalar.addi c0_i32_1630 v1067
  v1068.toNat
def k0_dev49 (d0 : Dev nD) : Nat :=
  let c0_i32_1674 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1673 : BitVec 32 := 1#32
  let v1093 : BitVec 32 := Scalar.muli v4 c1_i32_1673
  let v1094 : BitVec 32 := Scalar.addi c0_i32_1674 v1093
  v1094.toNat
def k0_dev50 (d0 : Dev nD) : Nat :=
  let c0_i32_1710 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1709 : BitVec 32 := 1#32
  let v1115 : BitVec 32 := Scalar.muli v7 c1_i32_1709
  let v1116 : BitVec 32 := Scalar.addi c0_i32_1710 v1115
  v1116.toNat
def k0_dev51 (d0 : Dev nD) : Nat :=
  let c0_i32_1754 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1753 : BitVec 32 := 1#32
  let v1141 : BitVec 32 := Scalar.muli v7 c1_i32_1753
  let v1142 : BitVec 32 := Scalar.addi c0_i32_1754 v1141
  v1142.toNat
def k0_dev52 (d0 : Dev nD) : Nat :=
  let c0_i32_1791 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1790 : BitVec 32 := 1#32
  let v1164 : BitVec 32 := Scalar.muli v4 c1_i32_1790
  let v1165 : BitVec 32 := Scalar.addi c0_i32_1791 v1164
  v1165.toNat
def k0_dev53 (d0 : Dev nD) : Nat :=
  let c0_i32_1835 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1834 : BitVec 32 := 1#32
  let v1190 : BitVec 32 := Scalar.muli v4 c1_i32_1834
  let v1191 : BitVec 32 := Scalar.addi c0_i32_1835 v1190
  v1191.toNat
def k0_dev54 (d0 : Dev nD) : Nat :=
  let c0_i32_1871 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1870 : BitVec 32 := 1#32
  let v1212 : BitVec 32 := Scalar.muli v7 c1_i32_1870
  let v1213 : BitVec 32 := Scalar.addi c0_i32_1871 v1212
  v1213.toNat
def k0_dev55 (d0 : Dev nD) : Nat :=
  let c0_i32_1915 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1914 : BitVec 32 := 1#32
  let v1238 : BitVec 32 := Scalar.muli v7 c1_i32_1914
  let v1239 : BitVec 32 := Scalar.addi c0_i32_1915 v1238
  v1239.toNat
def k0_dev56 (d0 : Dev nD) : Nat :=
  let c0_i32_1952 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1951 : BitVec 32 := 1#32
  let v1261 : BitVec 32 := Scalar.muli v4 c1_i32_1951
  let v1262 : BitVec 32 := Scalar.addi c0_i32_1952 v1261
  v1262.toNat
def k0_dev57 (d0 : Dev nD) : Nat :=
  let c0_i32_1996 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1995 : BitVec 32 := 1#32
  let v1287 : BitVec 32 := Scalar.muli v4 c1_i32_1995
  let v1288 : BitVec 32 := Scalar.addi c0_i32_1996 v1287
  v1288.toNat
def k0_dev58 (d0 : Dev nD) : Nat :=
  let c0_i32_2032 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2031 : BitVec 32 := 1#32
  let v1309 : BitVec 32 := Scalar.muli v7 c1_i32_2031
  let v1310 : BitVec 32 := Scalar.addi c0_i32_2032 v1309
  v1310.toNat
def k0_dev59 (d0 : Dev nD) : Nat :=
  let c0_i32_2076 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2075 : BitVec 32 := 1#32
  let v1335 : BitVec 32 := Scalar.muli v7 c1_i32_2075
  let v1336 : BitVec 32 := Scalar.addi c0_i32_2076 v1335
  v1336.toNat
def k0_dev60 (d0 : Dev nD) : Nat :=
  let c0_i32_2113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2112 : BitVec 32 := 1#32
  let v1358 : BitVec 32 := Scalar.muli v4 c1_i32_2112
  let v1359 : BitVec 32 := Scalar.addi c0_i32_2113 v1358
  v1359.toNat
def k0_dev61 (d0 : Dev nD) : Nat :=
  let c0_i32_2157 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2156 : BitVec 32 := 1#32
  let v1384 : BitVec 32 := Scalar.muli v4 c1_i32_2156
  let v1385 : BitVec 32 := Scalar.addi c0_i32_2157 v1384
  v1385.toNat
def k0_dev62 (d0 : Dev nD) : Nat :=
  let c0_i32_2193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2192 : BitVec 32 := 1#32
  let v1406 : BitVec 32 := Scalar.muli v7 c1_i32_2192
  let v1407 : BitVec 32 := Scalar.addi c0_i32_2193 v1406
  v1407.toNat
def k0_dev63 (d0 : Dev nD) : Nat :=
  let c0_i32_2237 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2236 : BitVec 32 := 1#32
  let v1432 : BitVec 32 := Scalar.muli v7 c1_i32_2236
  let v1433 : BitVec 32 := Scalar.addi c0_i32_2237 v1432
  v1433.toNat
def k0_dev64 (d0 : Dev nD) : Nat :=
  let c0_i32_2274 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2273 : BitVec 32 := 1#32
  let v1455 : BitVec 32 := Scalar.muli v4 c1_i32_2273
  let v1456 : BitVec 32 := Scalar.addi c0_i32_2274 v1455
  v1456.toNat
def k0_dev65 (d0 : Dev nD) : Nat :=
  let c0_i32_2318 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2317 : BitVec 32 := 1#32
  let v1481 : BitVec 32 := Scalar.muli v4 c1_i32_2317
  let v1482 : BitVec 32 := Scalar.addi c0_i32_2318 v1481
  v1482.toNat
def k0_dev66 (d0 : Dev nD) : Nat :=
  let c0_i32_2354 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2353 : BitVec 32 := 1#32
  let v1503 : BitVec 32 := Scalar.muli v7 c1_i32_2353
  let v1504 : BitVec 32 := Scalar.addi c0_i32_2354 v1503
  v1504.toNat
def k0_dev67 (d0 : Dev nD) : Nat :=
  let c0_i32_2398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2397 : BitVec 32 := 1#32
  let v1529 : BitVec 32 := Scalar.muli v7 c1_i32_2397
  let v1530 : BitVec 32 := Scalar.addi c0_i32_2398 v1529
  v1530.toNat
def k0_dev68 (d0 : Dev nD) : Nat :=
  let c0_i32_2435 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2434 : BitVec 32 := 1#32
  let v1552 : BitVec 32 := Scalar.muli v4 c1_i32_2434
  let v1553 : BitVec 32 := Scalar.addi c0_i32_2435 v1552
  v1553.toNat
def k0_dev69 (d0 : Dev nD) : Nat :=
  let c0_i32_2479 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2478 : BitVec 32 := 1#32
  let v1578 : BitVec 32 := Scalar.muli v4 c1_i32_2478
  let v1579 : BitVec 32 := Scalar.addi c0_i32_2479 v1578
  v1579.toNat
def k0_dev70 (d0 : Dev nD) : Nat :=
  let c0_i32_2515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2514 : BitVec 32 := 1#32
  let v1600 : BitVec 32 := Scalar.muli v7 c1_i32_2514
  let v1601 : BitVec 32 := Scalar.addi c0_i32_2515 v1600
  v1601.toNat
def k0_dev71 (d0 : Dev nD) : Nat :=
  let c0_i32_2559 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2558 : BitVec 32 := 1#32
  let v1626 : BitVec 32 := Scalar.muli v7 c1_i32_2558
  let v1627 : BitVec 32 := Scalar.addi c0_i32_2559 v1626
  v1627.toNat
def k0_dev72 (d0 : Dev nD) : Nat :=
  let c0_i32_2596 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2595 : BitVec 32 := 1#32
  let v1649 : BitVec 32 := Scalar.muli v4 c1_i32_2595
  let v1650 : BitVec 32 := Scalar.addi c0_i32_2596 v1649
  v1650.toNat
def k0_dev73 (d0 : Dev nD) : Nat :=
  let c0_i32_2640 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2639 : BitVec 32 := 1#32
  let v1675 : BitVec 32 := Scalar.muli v4 c1_i32_2639
  let v1676 : BitVec 32 := Scalar.addi c0_i32_2640 v1675
  v1676.toNat
def k0_dev74 (d0 : Dev nD) : Nat :=
  let c0_i32_2676 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2675 : BitVec 32 := 1#32
  let v1697 : BitVec 32 := Scalar.muli v7 c1_i32_2675
  let v1698 : BitVec 32 := Scalar.addi c0_i32_2676 v1697
  v1698.toNat
def k0_dev75 (d0 : Dev nD) : Nat :=
  let c0_i32_2720 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2719 : BitVec 32 := 1#32
  let v1723 : BitVec 32 := Scalar.muli v7 c1_i32_2719
  let v1724 : BitVec 32 := Scalar.addi c0_i32_2720 v1723
  v1724.toNat
def k0_dev76 (d0 : Dev nD) : Nat :=
  let c0_i32_2757 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2756 : BitVec 32 := 1#32
  let v1746 : BitVec 32 := Scalar.muli v4 c1_i32_2756
  let v1747 : BitVec 32 := Scalar.addi c0_i32_2757 v1746
  v1747.toNat
def k0_dev77 (d0 : Dev nD) : Nat :=
  let c0_i32_2801 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2800 : BitVec 32 := 1#32
  let v1772 : BitVec 32 := Scalar.muli v4 c1_i32_2800
  let v1773 : BitVec 32 := Scalar.addi c0_i32_2801 v1772
  v1773.toNat
def k0_dev78 (d0 : Dev nD) : Nat :=
  let c0_i32_2837 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2836 : BitVec 32 := 1#32
  let v1794 : BitVec 32 := Scalar.muli v7 c1_i32_2836
  let v1795 : BitVec 32 := Scalar.addi c0_i32_2837 v1794
  v1795.toNat
def k0_dev79 (d0 : Dev nD) : Nat :=
  let c0_i32_2881 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2880 : BitVec 32 := 1#32
  let v1820 : BitVec 32 := Scalar.muli v7 c1_i32_2880
  let v1821 : BitVec 32 := Scalar.addi c0_i32_2881 v1820
  v1821.toNat
def k0_dev80 (d0 : Dev nD) : Nat :=
  let c0_i32_2918 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2917 : BitVec 32 := 1#32
  let v1843 : BitVec 32 := Scalar.muli v4 c1_i32_2917
  let v1844 : BitVec 32 := Scalar.addi c0_i32_2918 v1843
  v1844.toNat
def k0_dev81 (d0 : Dev nD) : Nat :=
  let c0_i32_2962 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2961 : BitVec 32 := 1#32
  let v1869 : BitVec 32 := Scalar.muli v4 c1_i32_2961
  let v1870 : BitVec 32 := Scalar.addi c0_i32_2962 v1869
  v1870.toNat
def k0_dev82 (d0 : Dev nD) : Nat :=
  let c0_i32_2998 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2997 : BitVec 32 := 1#32
  let v1891 : BitVec 32 := Scalar.muli v7 c1_i32_2997
  let v1892 : BitVec 32 := Scalar.addi c0_i32_2998 v1891
  v1892.toNat
def k0_dev83 (d0 : Dev nD) : Nat :=
  let c0_i32_3042 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_3041 : BitVec 32 := 1#32
  let v1917 : BitVec 32 := Scalar.muli v7 c1_i32_3041
  let v1918 : BitVec 32 := Scalar.addi c0_i32_3042 v1917
  v1918.toNat
def k0_dev84 (d0 : Dev nD) : Nat :=
  let c0_i32_3079 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_3078 : BitVec 32 := 1#32
  let v1940 : BitVec 32 := Scalar.muli v4 c1_i32_3078
  let v1941 : BitVec 32 := Scalar.addi c0_i32_3079 v1940
  v1941.toNat
def k0_dev85 (d0 : Dev nD) : Nat :=
  let c0_i32_3123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_3122 : BitVec 32 := 1#32
  let v1966 : BitVec 32 := Scalar.muli v4 c1_i32_3122
  let v1967 : BitVec 32 := Scalar.addi c0_i32_3123 v1966
  v1967.toNat
def k0_dev86 (d0 : Dev nD) : Nat :=
  let c0_i32_3159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_3158 : BitVec 32 := 1#32
  let v1988 : BitVec 32 := Scalar.muli v7 c1_i32_3158
  let v1989 : BitVec 32 := Scalar.addi c0_i32_3159 v1988
  v1989.toNat
def k0_dev87 (d0 : Dev nD) : Nat :=
  let c0_i32_3203 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_3202 : BitVec 32 := 1#32
  let v2014 : BitVec 32 := Scalar.muli v7 c1_i32_3202
  let v2015 : BitVec 32 := Scalar.addi c0_i32_3203 v2014
  v2015.toNat
def k0_dev88 (d0 : Dev nD) : Nat :=
  let c0_i32_3240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_3239 : BitVec 32 := 1#32
  let v2037 : BitVec 32 := Scalar.muli v4 c1_i32_3239
  let v2038 : BitVec 32 := Scalar.addi c0_i32_3240 v2037
  v2038.toNat
def k0_dev89 (d0 : Dev nD) : Nat :=
  let c0_i32_3284 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_3283 : BitVec 32 := 1#32
  let v2063 : BitVec 32 := Scalar.muli v4 c1_i32_3283
  let v2064 : BitVec 32 := Scalar.addi c0_i32_3284 v2063
  v2064.toNat
def k0_dev90 (d0 : Dev nD) : Nat :=
  let c0_i32_3320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_3319 : BitVec 32 := 1#32
  let v2085 : BitVec 32 := Scalar.muli v7 c1_i32_3319
  let v2086 : BitVec 32 := Scalar.addi c0_i32_3320 v2085
  v2086.toNat
def k0_dev91 (d0 : Dev nD) : Nat :=
  let c0_i32_3364 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_3363 : BitVec 32 := 1#32
  let v2111 : BitVec 32 := Scalar.muli v7 c1_i32_3363
  let v2112 : BitVec 32 := Scalar.addi c0_i32_3364 v2111
  v2112.toNat
def k0_dev92 (d0 : Dev nD) : Nat :=
  let c0_i32_3401 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_3400 : BitVec 32 := 1#32
  let v2134 : BitVec 32 := Scalar.muli v4 c1_i32_3400
  let v2135 : BitVec 32 := Scalar.addi c0_i32_3401 v2134
  v2135.toNat
def k0_dev93 (d0 : Dev nD) : Nat :=
  let c0_i32_3445 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_3444 : BitVec 32 := 1#32
  let v2160 : BitVec 32 := Scalar.muli v4 c1_i32_3444
  let v2161 : BitVec 32 := Scalar.addi c0_i32_3445 v2160
  v2161.toNat
def k0_dev94 (d0 : Dev nD) : Nat :=
  let c0_i32_3481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_3480 : BitVec 32 := 1#32
  let v2182 : BitVec 32 := Scalar.muli v7 c1_i32_3480
  let v2183 : BitVec 32 := Scalar.addi c0_i32_3481 v2182
  v2183.toNat
def k0_dev95 (d0 : Dev nD) : Nat :=
  let c0_i32_3525 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_3524 : BitVec 32 := 1#32
  let v2208 : BitVec 32 := Scalar.muli v7 c1_i32_3524
  let v2209 : BitVec 32 := Scalar.addi c0_i32_3525 v2208
  v2209.toNat
def k0_dev96 (d0 : Dev nD) : Nat :=
  let c0_i32_3562 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_3561 : BitVec 32 := 1#32
  let v2231 : BitVec 32 := Scalar.muli v4 c1_i32_3561
  let v2232 : BitVec 32 := Scalar.addi c0_i32_3562 v2231
  v2232.toNat
def k0_dev97 (d0 : Dev nD) : Nat :=
  let c0_i32_3606 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_3605 : BitVec 32 := 1#32
  let v2257 : BitVec 32 := Scalar.muli v4 c1_i32_3605
  let v2258 : BitVec 32 := Scalar.addi c0_i32_3606 v2257
  v2258.toNat
def k0_dev98 (d0 : Dev nD) : Nat :=
  let c0_i32_3642 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_3641 : BitVec 32 := 1#32
  let v2279 : BitVec 32 := Scalar.muli v7 c1_i32_3641
  let v2280 : BitVec 32 := Scalar.addi c0_i32_3642 v2279
  v2280.toNat
def k0_dev99 (d0 : Dev nD) : Nat :=
  let c0_i32_3686 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_3685 : BitVec 32 := 1#32
  let v2305 : BitVec 32 := Scalar.muli v7 c1_i32_3685
  let v2306 : BitVec 32 := Scalar.addi c0_i32_3686 v2305
  v2306.toNat
def k0_dev100 (d0 : Dev nD) : Nat :=
  let c0_i32_3723 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_3722 : BitVec 32 := 1#32
  let v2328 : BitVec 32 := Scalar.muli v4 c1_i32_3722
  let v2329 : BitVec 32 := Scalar.addi c0_i32_3723 v2328
  v2329.toNat
def k0_dev101 (d0 : Dev nD) : Nat :=
  let c0_i32_3767 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_3766 : BitVec 32 := 1#32
  let v2354 : BitVec 32 := Scalar.muli v4 c1_i32_3766
  let v2355 : BitVec 32 := Scalar.addi c0_i32_3767 v2354
  v2355.toNat
def k0_dev102 (d0 : Dev nD) : Nat :=
  let c0_i32_3803 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_3802 : BitVec 32 := 1#32
  let v2376 : BitVec 32 := Scalar.muli v7 c1_i32_3802
  let v2377 : BitVec 32 := Scalar.addi c0_i32_3803 v2376
  v2377.toNat
def k0_dev103 (d0 : Dev nD) : Nat :=
  let c0_i32_3847 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_3846 : BitVec 32 := 1#32
  let v2402 : BitVec 32 := Scalar.muli v7 c1_i32_3846
  let v2403 : BitVec 32 := Scalar.addi c0_i32_3847 v2402
  v2403.toNat
def k0_dev104 (d0 : Dev nD) : Nat :=
  let c0_i32_3884 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_3883 : BitVec 32 := 1#32
  let v2425 : BitVec 32 := Scalar.muli v4 c1_i32_3883
  let v2426 : BitVec 32 := Scalar.addi c0_i32_3884 v2425
  v2426.toNat
def k0_dev105 (d0 : Dev nD) : Nat :=
  let c0_i32_3928 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_3927 : BitVec 32 := 1#32
  let v2451 : BitVec 32 := Scalar.muli v4 c1_i32_3927
  let v2452 : BitVec 32 := Scalar.addi c0_i32_3928 v2451
  v2452.toNat
def k0_dev106 (d0 : Dev nD) : Nat :=
  let c0_i32_3964 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_3963 : BitVec 32 := 1#32
  let v2473 : BitVec 32 := Scalar.muli v7 c1_i32_3963
  let v2474 : BitVec 32 := Scalar.addi c0_i32_3964 v2473
  v2474.toNat
def k0_dev107 (d0 : Dev nD) : Nat :=
  let c0_i32_4008 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_4007 : BitVec 32 := 1#32
  let v2499 : BitVec 32 := Scalar.muli v7 c1_i32_4007
  let v2500 : BitVec 32 := Scalar.addi c0_i32_4008 v2499
  v2500.toNat
def k0_dev108 (d0 : Dev nD) : Nat :=
  let c0_i32_4045 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_4044 : BitVec 32 := 1#32
  let v2522 : BitVec 32 := Scalar.muli v4 c1_i32_4044
  let v2523 : BitVec 32 := Scalar.addi c0_i32_4045 v2522
  v2523.toNat
def k0_dev109 (d0 : Dev nD) : Nat :=
  let c0_i32_4089 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_4088 : BitVec 32 := 1#32
  let v2548 : BitVec 32 := Scalar.muli v4 c1_i32_4088
  let v2549 : BitVec 32 := Scalar.addi c0_i32_4089 v2548
  v2549.toNat
def k0_dev110 (d0 : Dev nD) : Nat :=
  let c0_i32_4125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_4124 : BitVec 32 := 1#32
  let v2570 : BitVec 32 := Scalar.muli v7 c1_i32_4124
  let v2571 : BitVec 32 := Scalar.addi c0_i32_4125 v2570
  v2571.toNat
def k0_dev111 (d0 : Dev nD) : Nat :=
  let c0_i32_4169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_4168 : BitVec 32 := 1#32
  let v2596 : BitVec 32 := Scalar.muli v7 c1_i32_4168
  let v2597 : BitVec 32 := Scalar.addi c0_i32_4169 v2596
  v2597.toNat
def k0_dev112 (d0 : Dev nD) : Nat :=
  let c0_i32_4206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_4205 : BitVec 32 := 1#32
  let v2619 : BitVec 32 := Scalar.muli v4 c1_i32_4205
  let v2620 : BitVec 32 := Scalar.addi c0_i32_4206 v2619
  v2620.toNat
def k0_dev113 (d0 : Dev nD) : Nat :=
  let c0_i32_4250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_4249 : BitVec 32 := 1#32
  let v2645 : BitVec 32 := Scalar.muli v4 c1_i32_4249
  let v2646 : BitVec 32 := Scalar.addi c0_i32_4250 v2645
  v2646.toNat
def k0_dev114 (d0 : Dev nD) : Nat :=
  let c0_i32_4286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_4285 : BitVec 32 := 1#32
  let v2667 : BitVec 32 := Scalar.muli v7 c1_i32_4285
  let v2668 : BitVec 32 := Scalar.addi c0_i32_4286 v2667
  v2668.toNat
def k0_dev115 (d0 : Dev nD) : Nat :=
  let c0_i32_4330 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_4329 : BitVec 32 := 1#32
  let v2693 : BitVec 32 := Scalar.muli v7 c1_i32_4329
  let v2694 : BitVec 32 := Scalar.addi c0_i32_4330 v2693
  v2694.toNat
def k0_dev116 (d0 : Dev nD) : Nat :=
  let c0_i32_4367 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_4366 : BitVec 32 := 1#32
  let v2716 : BitVec 32 := Scalar.muli v4 c1_i32_4366
  let v2717 : BitVec 32 := Scalar.addi c0_i32_4367 v2716
  v2717.toNat
def k0_dev117 (d0 : Dev nD) : Nat :=
  let c0_i32_4411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_4410 : BitVec 32 := 1#32
  let v2742 : BitVec 32 := Scalar.muli v4 c1_i32_4410
  let v2743 : BitVec 32 := Scalar.addi c0_i32_4411 v2742
  v2743.toNat
def k0_dev118 (d0 : Dev nD) : Nat :=
  let c0_i32_4447 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_4446 : BitVec 32 := 1#32
  let v2764 : BitVec 32 := Scalar.muli v7 c1_i32_4446
  let v2765 : BitVec 32 := Scalar.addi c0_i32_4447 v2764
  v2765.toNat
def k0_dev119 (d0 : Dev nD) : Nat :=
  let c0_i32_4491 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_4490 : BitVec 32 := 1#32
  let v2790 : BitVec 32 := Scalar.muli v7 c1_i32_4490
  let v2791 : BitVec 32 := Scalar.addi c0_i32_4491 v2790
  v2791.toNat
def k0_dev120 (d0 : Dev nD) : Nat :=
  let c0_i32_4528 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_4527 : BitVec 32 := 1#32
  let v2813 : BitVec 32 := Scalar.muli v4 c1_i32_4527
  let v2814 : BitVec 32 := Scalar.addi c0_i32_4528 v2813
  v2814.toNat
def k0_dev121 (d0 : Dev nD) : Nat :=
  let c0_i32_4572 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_4571 : BitVec 32 := 1#32
  let v2839 : BitVec 32 := Scalar.muli v4 c1_i32_4571
  let v2840 : BitVec 32 := Scalar.addi c0_i32_4572 v2839
  v2840.toNat
def k0_dev122 (d0 : Dev nD) : Nat :=
  let c0_i32_4608 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_4607 : BitVec 32 := 1#32
  let v2861 : BitVec 32 := Scalar.muli v7 c1_i32_4607
  let v2862 : BitVec 32 := Scalar.addi c0_i32_4608 v2861
  v2862.toNat
def k0_dev123 (d0 : Dev nD) : Nat :=
  let c0_i32_4652 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_4651 : BitVec 32 := 1#32
  let v2887 : BitVec 32 := Scalar.muli v7 c1_i32_4651
  let v2888 : BitVec 32 := Scalar.addi c0_i32_4652 v2887
  v2888.toNat
def k0_dev124 (d0 : Dev nD) : Nat :=
  let c0_i32_4689 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_4688 : BitVec 32 := 1#32
  let v2910 : BitVec 32 := Scalar.muli v4 c1_i32_4688
  let v2911 : BitVec 32 := Scalar.addi c0_i32_4689 v2910
  v2911.toNat
def k0_dev125 (d0 : Dev nD) : Nat :=
  let c0_i32_4733 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_4732 : BitVec 32 := 1#32
  let v2936 : BitVec 32 := Scalar.muli v4 c1_i32_4732
  let v2937 : BitVec 32 := Scalar.addi c0_i32_4733 v2936
  v2937.toNat
def k0_dev126 (d0 : Dev nD) : Nat :=
  let c0_i32_4769 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_4768 : BitVec 32 := 1#32
  let v2958 : BitVec 32 := Scalar.muli v7 c1_i32_4768
  let v2959 : BitVec 32 := Scalar.addi c0_i32_4769 v2958
  v2959.toNat
def k0_dev127 (d0 : Dev nD) : Nat :=
  let c0_i32_4813 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_4812 : BitVec 32 := 1#32
  let v2984 : BitVec 32 := Scalar.muli v7 c1_i32_4812
  let v2985 : BitVec 32 := Scalar.addi c0_i32_4813 v2984
  v2985.toNat
def k0_dev128 (d0 : Dev nD) : Nat :=
  let c0_i32_4850 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_4849 : BitVec 32 := 1#32
  let v3007 : BitVec 32 := Scalar.muli v4 c1_i32_4849
  let v3008 : BitVec 32 := Scalar.addi c0_i32_4850 v3007
  v3008.toNat
def k0_dev129 (d0 : Dev nD) : Nat :=
  let c0_i32_4894 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_4893 : BitVec 32 := 1#32
  let v3033 : BitVec 32 := Scalar.muli v4 c1_i32_4893
  let v3034 : BitVec 32 := Scalar.addi c0_i32_4894 v3033
  v3034.toNat
def k0_dev130 (d0 : Dev nD) : Nat :=
  let c0_i32_4930 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_4929 : BitVec 32 := 1#32
  let v3055 : BitVec 32 := Scalar.muli v7 c1_i32_4929
  let v3056 : BitVec 32 := Scalar.addi c0_i32_4930 v3055
  v3056.toNat
def k0_dev131 (d0 : Dev nD) : Nat :=
  let c0_i32_4974 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_4973 : BitVec 32 := 1#32
  let v3081 : BitVec 32 := Scalar.muli v7 c1_i32_4973
  let v3082 : BitVec 32 := Scalar.addi c0_i32_4974 v3081
  v3082.toNat
def k0_dev132 (d0 : Dev nD) : Nat :=
  let c0_i32_5011 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_5010 : BitVec 32 := 1#32
  let v3104 : BitVec 32 := Scalar.muli v4 c1_i32_5010
  let v3105 : BitVec 32 := Scalar.addi c0_i32_5011 v3104
  v3105.toNat
def k0_dev133 (d0 : Dev nD) : Nat :=
  let c0_i32_5055 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_5054 : BitVec 32 := 1#32
  let v3130 : BitVec 32 := Scalar.muli v4 c1_i32_5054
  let v3131 : BitVec 32 := Scalar.addi c0_i32_5055 v3130
  v3131.toNat
def k0_dev134 (d0 : Dev nD) : Nat :=
  let c0_i32_5091 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_5090 : BitVec 32 := 1#32
  let v3152 : BitVec 32 := Scalar.muli v7 c1_i32_5090
  let v3153 : BitVec 32 := Scalar.addi c0_i32_5091 v3152
  v3153.toNat
def k0_dev135 (d0 : Dev nD) : Nat :=
  let c0_i32_5135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_5134 : BitVec 32 := 1#32
  let v3178 : BitVec 32 := Scalar.muli v7 c1_i32_5134
  let v3179 : BitVec 32 := Scalar.addi c0_i32_5135 v3178
  v3179.toNat
def k0_dev136 (d0 : Dev nD) : Nat :=
  let c0_i32_5172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_5171 : BitVec 32 := 1#32
  let v3201 : BitVec 32 := Scalar.muli v4 c1_i32_5171
  let v3202 : BitVec 32 := Scalar.addi c0_i32_5172 v3201
  v3202.toNat
def k0_dev137 (d0 : Dev nD) : Nat :=
  let c0_i32_5216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_5215 : BitVec 32 := 1#32
  let v3227 : BitVec 32 := Scalar.muli v4 c1_i32_5215
  let v3228 : BitVec 32 := Scalar.addi c0_i32_5216 v3227
  v3228.toNat
def k0_dev138 (d0 : Dev nD) : Nat :=
  let c0_i32_5252 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_5251 : BitVec 32 := 1#32
  let v3249 : BitVec 32 := Scalar.muli v7 c1_i32_5251
  let v3250 : BitVec 32 := Scalar.addi c0_i32_5252 v3249
  v3250.toNat
def k0_dev139 (d0 : Dev nD) : Nat :=
  let c0_i32_5296 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_5295 : BitVec 32 := 1#32
  let v3275 : BitVec 32 := Scalar.muli v7 c1_i32_5295
  let v3276 : BitVec 32 := Scalar.addi c0_i32_5296 v3275
  v3276.toNat
def k0_dev140 (d0 : Dev nD) : Nat :=
  let c0_i32_5333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_5332 : BitVec 32 := 1#32
  let v3298 : BitVec 32 := Scalar.muli v4 c1_i32_5332
  let v3299 : BitVec 32 := Scalar.addi c0_i32_5333 v3298
  v3299.toNat
def k0_dev141 (d0 : Dev nD) : Nat :=
  let c0_i32_5377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_5376 : BitVec 32 := 1#32
  let v3324 : BitVec 32 := Scalar.muli v4 c1_i32_5376
  let v3325 : BitVec 32 := Scalar.addi c0_i32_5377 v3324
  v3325.toNat
def k0_dev142 (d0 : Dev nD) : Nat :=
  let c0_i32_5413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_5412 : BitVec 32 := 1#32
  let v3346 : BitVec 32 := Scalar.muli v7 c1_i32_5412
  let v3347 : BitVec 32 := Scalar.addi c0_i32_5413 v3346
  v3347.toNat
def k0_dev143 (d0 : Dev nD) : Nat :=
  let c0_i32_5457 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_5456 : BitVec 32 := 1#32
  let v3372 : BitVec 32 := Scalar.muli v7 c1_i32_5456
  let v3373 : BitVec 32 := Scalar.addi c0_i32_5457 v3372
  v3373.toNat
def k0_dev144 (d0 : Dev nD) : Nat :=
  let c0_i32_5494 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_5493 : BitVec 32 := 1#32
  let v3395 : BitVec 32 := Scalar.muli v4 c1_i32_5493
  let v3396 : BitVec 32 := Scalar.addi c0_i32_5494 v3395
  v3396.toNat
def k0_dev145 (d0 : Dev nD) : Nat :=
  let c0_i32_5538 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_5537 : BitVec 32 := 1#32
  let v3421 : BitVec 32 := Scalar.muli v4 c1_i32_5537
  let v3422 : BitVec 32 := Scalar.addi c0_i32_5538 v3421
  v3422.toNat
def k0_dev146 (d0 : Dev nD) : Nat :=
  let c0_i32_5574 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_5573 : BitVec 32 := 1#32
  let v3443 : BitVec 32 := Scalar.muli v7 c1_i32_5573
  let v3444 : BitVec 32 := Scalar.addi c0_i32_5574 v3443
  v3444.toNat
def k0_dev147 (d0 : Dev nD) : Nat :=
  let c0_i32_5618 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_5617 : BitVec 32 := 1#32
  let v3469 : BitVec 32 := Scalar.muli v7 c1_i32_5617
  let v3470 : BitVec 32 := Scalar.addi c0_i32_5618 v3469
  v3470.toNat
def k0_dev148 (d0 : Dev nD) : Nat :=
  let c0_i32_5655 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_5654 : BitVec 32 := 1#32
  let v3492 : BitVec 32 := Scalar.muli v4 c1_i32_5654
  let v3493 : BitVec 32 := Scalar.addi c0_i32_5655 v3492
  v3493.toNat
def k0_dev149 (d0 : Dev nD) : Nat :=
  let c0_i32_5699 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_5698 : BitVec 32 := 1#32
  let v3518 : BitVec 32 := Scalar.muli v4 c1_i32_5698
  let v3519 : BitVec 32 := Scalar.addi c0_i32_5699 v3518
  v3519.toNat
def k0_dev150 (d0 : Dev nD) : Nat :=
  let c0_i32_5735 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_5734 : BitVec 32 := 1#32
  let v3540 : BitVec 32 := Scalar.muli v7 c1_i32_5734
  let v3541 : BitVec 32 := Scalar.addi c0_i32_5735 v3540
  v3541.toNat
def k0_dev151 (d0 : Dev nD) : Nat :=
  let c0_i32_5779 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_5778 : BitVec 32 := 1#32
  let v3566 : BitVec 32 := Scalar.muli v7 c1_i32_5778
  let v3567 : BitVec 32 := Scalar.addi c0_i32_5779 v3566
  v3567.toNat
def k0_dev152 (d0 : Dev nD) : Nat :=
  let c0_i32_5816 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_5815 : BitVec 32 := 1#32
  let v3589 : BitVec 32 := Scalar.muli v4 c1_i32_5815
  let v3590 : BitVec 32 := Scalar.addi c0_i32_5816 v3589
  v3590.toNat
def k0_dev153 (d0 : Dev nD) : Nat :=
  let c0_i32_5860 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_5859 : BitVec 32 := 1#32
  let v3615 : BitVec 32 := Scalar.muli v4 c1_i32_5859
  let v3616 : BitVec 32 := Scalar.addi c0_i32_5860 v3615
  v3616.toNat
def k0_dev154 (d0 : Dev nD) : Nat :=
  let c0_i32_5896 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_5895 : BitVec 32 := 1#32
  let v3637 : BitVec 32 := Scalar.muli v7 c1_i32_5895
  let v3638 : BitVec 32 := Scalar.addi c0_i32_5896 v3637
  v3638.toNat
def k0_dev155 (d0 : Dev nD) : Nat :=
  let c0_i32_5940 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_5939 : BitVec 32 := 1#32
  let v3663 : BitVec 32 := Scalar.muli v7 c1_i32_5939
  let v3664 : BitVec 32 := Scalar.addi c0_i32_5940 v3663
  v3664.toNat
def k0_dev156 (d0 : Dev nD) : Nat :=
  let c0_i32_5977 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_5976 : BitVec 32 := 1#32
  let v3686 : BitVec 32 := Scalar.muli v4 c1_i32_5976
  let v3687 : BitVec 32 := Scalar.addi c0_i32_5977 v3686
  v3687.toNat
def k0_dev157 (d0 : Dev nD) : Nat :=
  let c0_i32_6021 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_6020 : BitVec 32 := 1#32
  let v3712 : BitVec 32 := Scalar.muli v4 c1_i32_6020
  let v3713 : BitVec 32 := Scalar.addi c0_i32_6021 v3712
  v3713.toNat
def k0_dev158 (d0 : Dev nD) : Nat :=
  let c0_i32_6057 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_6056 : BitVec 32 := 1#32
  let v3734 : BitVec 32 := Scalar.muli v7 c1_i32_6056
  let v3735 : BitVec 32 := Scalar.addi c0_i32_6057 v3734
  v3735.toNat
def k0_dev159 (d0 : Dev nD) : Nat :=
  let c0_i32_6101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_6100 : BitVec 32 := 1#32
  let v3760 : BitVec 32 := Scalar.muli v7 c1_i32_6100
  let v3761 : BitVec 32 := Scalar.addi c0_i32_6101 v3760
  v3761.toNat
def k0_dev160 (d0 : Dev nD) : Nat :=
  let c0_i32_6138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_6137 : BitVec 32 := 1#32
  let v3783 : BitVec 32 := Scalar.muli v4 c1_i32_6137
  let v3784 : BitVec 32 := Scalar.addi c0_i32_6138 v3783
  v3784.toNat
def k0_dev161 (d0 : Dev nD) : Nat :=
  let c0_i32_6182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_6181 : BitVec 32 := 1#32
  let v3809 : BitVec 32 := Scalar.muli v4 c1_i32_6181
  let v3810 : BitVec 32 := Scalar.addi c0_i32_6182 v3809
  v3810.toNat
def k0_dev162 (d0 : Dev nD) : Nat :=
  let c0_i32_6218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_6217 : BitVec 32 := 1#32
  let v3831 : BitVec 32 := Scalar.muli v7 c1_i32_6217
  let v3832 : BitVec 32 := Scalar.addi c0_i32_6218 v3831
  v3832.toNat
def k0_dev163 (d0 : Dev nD) : Nat :=
  let c0_i32_6262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_6261 : BitVec 32 := 1#32
  let v3857 : BitVec 32 := Scalar.muli v7 c1_i32_6261
  let v3858 : BitVec 32 := Scalar.addi c0_i32_6262 v3857
  v3858.toNat
def k0_dev164 (d0 : Dev nD) : Nat :=
  let c0_i32_6299 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_6298 : BitVec 32 := 1#32
  let v3880 : BitVec 32 := Scalar.muli v4 c1_i32_6298
  let v3881 : BitVec 32 := Scalar.addi c0_i32_6299 v3880
  v3881.toNat
def k0_dev165 (d0 : Dev nD) : Nat :=
  let c0_i32_6343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_6342 : BitVec 32 := 1#32
  let v3906 : BitVec 32 := Scalar.muli v4 c1_i32_6342
  let v3907 : BitVec 32 := Scalar.addi c0_i32_6343 v3906
  v3907.toNat
def k0_dev166 (d0 : Dev nD) : Nat :=
  let c0_i32_6379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_6378 : BitVec 32 := 1#32
  let v3928 : BitVec 32 := Scalar.muli v7 c1_i32_6378
  let v3929 : BitVec 32 := Scalar.addi c0_i32_6379 v3928
  v3929.toNat
def k0_dev167 (d0 : Dev nD) : Nat :=
  let c0_i32_6423 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_6422 : BitVec 32 := 1#32
  let v3954 : BitVec 32 := Scalar.muli v7 c1_i32_6422
  let v3955 : BitVec 32 := Scalar.addi c0_i32_6423 v3954
  v3955.toNat
def k0_dev168 (d0 : Dev nD) : Nat :=
  let c0_i32_6460 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_6459 : BitVec 32 := 1#32
  let v3977 : BitVec 32 := Scalar.muli v4 c1_i32_6459
  let v3978 : BitVec 32 := Scalar.addi c0_i32_6460 v3977
  v3978.toNat
def k0_dev169 (d0 : Dev nD) : Nat :=
  let c0_i32_6504 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_6503 : BitVec 32 := 1#32
  let v4003 : BitVec 32 := Scalar.muli v4 c1_i32_6503
  let v4004 : BitVec 32 := Scalar.addi c0_i32_6504 v4003
  v4004.toNat
def k0_dev170 (d0 : Dev nD) : Nat :=
  let c0_i32_6540 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_6539 : BitVec 32 := 1#32
  let v4025 : BitVec 32 := Scalar.muli v7 c1_i32_6539
  let v4026 : BitVec 32 := Scalar.addi c0_i32_6540 v4025
  v4026.toNat
def k0_dev171 (d0 : Dev nD) : Nat :=
  let c0_i32_6584 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_6583 : BitVec 32 := 1#32
  let v4051 : BitVec 32 := Scalar.muli v7 c1_i32_6583
  let v4052 : BitVec 32 := Scalar.addi c0_i32_6584 v4051
  v4052.toNat
def k0_dev172 (d0 : Dev nD) : Nat :=
  let c0_i32_6621 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_6620 : BitVec 32 := 1#32
  let v4074 : BitVec 32 := Scalar.muli v4 c1_i32_6620
  let v4075 : BitVec 32 := Scalar.addi c0_i32_6621 v4074
  v4075.toNat
def k0_dev173 (d0 : Dev nD) : Nat :=
  let c0_i32_6665 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_6664 : BitVec 32 := 1#32
  let v4100 : BitVec 32 := Scalar.muli v4 c1_i32_6664
  let v4101 : BitVec 32 := Scalar.addi c0_i32_6665 v4100
  v4101.toNat
def k0_dev174 (d0 : Dev nD) : Nat :=
  let c0_i32_6701 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_6700 : BitVec 32 := 1#32
  let v4122 : BitVec 32 := Scalar.muli v7 c1_i32_6700
  let v4123 : BitVec 32 := Scalar.addi c0_i32_6701 v4122
  v4123.toNat
def k0_dev175 (d0 : Dev nD) : Nat :=
  let c0_i32_6745 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_6744 : BitVec 32 := 1#32
  let v4148 : BitVec 32 := Scalar.muli v7 c1_i32_6744
  let v4149 : BitVec 32 := Scalar.addi c0_i32_6745 v4148
  v4149.toNat
def k0_dev176 (d0 : Dev nD) : Nat :=
  let c0_i32_6782 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_6781 : BitVec 32 := 1#32
  let v4171 : BitVec 32 := Scalar.muli v4 c1_i32_6781
  let v4172 : BitVec 32 := Scalar.addi c0_i32_6782 v4171
  v4172.toNat
def k0_dev177 (d0 : Dev nD) : Nat :=
  let c0_i32_6826 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_6825 : BitVec 32 := 1#32
  let v4197 : BitVec 32 := Scalar.muli v4 c1_i32_6825
  let v4198 : BitVec 32 := Scalar.addi c0_i32_6826 v4197
  v4198.toNat
def k0_dev178 (d0 : Dev nD) : Nat :=
  let c0_i32_6862 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_6861 : BitVec 32 := 1#32
  let v4219 : BitVec 32 := Scalar.muli v7 c1_i32_6861
  let v4220 : BitVec 32 := Scalar.addi c0_i32_6862 v4219
  v4220.toNat
def k0_dev179 (d0 : Dev nD) : Nat :=
  let c0_i32_6906 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_6905 : BitVec 32 := 1#32
  let v4245 : BitVec 32 := Scalar.muli v7 c1_i32_6905
  let v4246 : BitVec 32 := Scalar.addi c0_i32_6906 v4245
  v4246.toNat
def k0_dev180 (d0 : Dev nD) : Nat :=
  let c0_i32_6943 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_6942 : BitVec 32 := 1#32
  let v4268 : BitVec 32 := Scalar.muli v4 c1_i32_6942
  let v4269 : BitVec 32 := Scalar.addi c0_i32_6943 v4268
  v4269.toNat
def k0_dev181 (d0 : Dev nD) : Nat :=
  let c0_i32_6987 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_6986 : BitVec 32 := 1#32
  let v4294 : BitVec 32 := Scalar.muli v4 c1_i32_6986
  let v4295 : BitVec 32 := Scalar.addi c0_i32_6987 v4294
  v4295.toNat
def k0_dev182 (d0 : Dev nD) : Nat :=
  let c0_i32_7023 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_7022 : BitVec 32 := 1#32
  let v4316 : BitVec 32 := Scalar.muli v7 c1_i32_7022
  let v4317 : BitVec 32 := Scalar.addi c0_i32_7023 v4316
  v4317.toNat
def k0_dev183 (d0 : Dev nD) : Nat :=
  let c0_i32_7067 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_7066 : BitVec 32 := 1#32
  let v4342 : BitVec 32 := Scalar.muli v7 c1_i32_7066
  let v4343 : BitVec 32 := Scalar.addi c0_i32_7067 v4342
  v4343.toNat
def k0_dev184 (d0 : Dev nD) : Nat :=
  let c0_i32_7104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_7103 : BitVec 32 := 1#32
  let v4365 : BitVec 32 := Scalar.muli v4 c1_i32_7103
  let v4366 : BitVec 32 := Scalar.addi c0_i32_7104 v4365
  v4366.toNat
def k0_dev185 (d0 : Dev nD) : Nat :=
  let c0_i32_7148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_7147 : BitVec 32 := 1#32
  let v4391 : BitVec 32 := Scalar.muli v4 c1_i32_7147
  let v4392 : BitVec 32 := Scalar.addi c0_i32_7148 v4391
  v4392.toNat
def k0_dev186 (d0 : Dev nD) : Nat :=
  let c0_i32_7184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_7183 : BitVec 32 := 1#32
  let v4413 : BitVec 32 := Scalar.muli v7 c1_i32_7183
  let v4414 : BitVec 32 := Scalar.addi c0_i32_7184 v4413
  v4414.toNat
def k0_dev187 (d0 : Dev nD) : Nat :=
  let c0_i32_7228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_7227 : BitVec 32 := 1#32
  let v4439 : BitVec 32 := Scalar.muli v7 c1_i32_7227
  let v4440 : BitVec 32 := Scalar.addi c0_i32_7228 v4439
  v4440.toNat
def k0_dev188 (d0 : Dev nD) : Nat :=
  let c0_i32_7265 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_7264 : BitVec 32 := 1#32
  let v4462 : BitVec 32 := Scalar.muli v4 c1_i32_7264
  let v4463 : BitVec 32 := Scalar.addi c0_i32_7265 v4462
  v4463.toNat
def k0_dev189 (d0 : Dev nD) : Nat :=
  let c0_i32_7309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_7308 : BitVec 32 := 1#32
  let v4488 : BitVec 32 := Scalar.muli v4 c1_i32_7308
  let v4489 : BitVec 32 := Scalar.addi c0_i32_7309 v4488
  v4489.toNat
def k0_dev190 (d0 : Dev nD) : Nat :=
  let c0_i32_7345 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_7344 : BitVec 32 := 1#32
  let v4510 : BitVec 32 := Scalar.muli v7 c1_i32_7344
  let v4511 : BitVec 32 := Scalar.addi c0_i32_7345 v4510
  v4511.toNat
def k0_dev191 (d0 : Dev nD) : Nat :=
  let c0_i32_7389 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_7388 : BitVec 32 := 1#32
  let v4536 : BitVec 32 := Scalar.muli v7 c1_i32_7388
  let v4537 : BitVec 32 := Scalar.addi c0_i32_7389 v4536
  v4537.toNat
def k0_dev192 (d0 : Dev nD) : Nat :=
  let c0_i32_7426 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_7425 : BitVec 32 := 1#32
  let v4559 : BitVec 32 := Scalar.muli v4 c1_i32_7425
  let v4560 : BitVec 32 := Scalar.addi c0_i32_7426 v4559
  v4560.toNat
def k0_dev193 (d0 : Dev nD) : Nat :=
  let c0_i32_7470 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_7469 : BitVec 32 := 1#32
  let v4585 : BitVec 32 := Scalar.muli v4 c1_i32_7469
  let v4586 : BitVec 32 := Scalar.addi c0_i32_7470 v4585
  v4586.toNat
def k0_dev194 (d0 : Dev nD) : Nat :=
  let c0_i32_7506 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_7505 : BitVec 32 := 1#32
  let v4607 : BitVec 32 := Scalar.muli v7 c1_i32_7505
  let v4608 : BitVec 32 := Scalar.addi c0_i32_7506 v4607
  v4608.toNat
def k0_dev195 (d0 : Dev nD) : Nat :=
  let c0_i32_7550 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_7549 : BitVec 32 := 1#32
  let v4633 : BitVec 32 := Scalar.muli v7 c1_i32_7549
  let v4634 : BitVec 32 := Scalar.addi c0_i32_7550 v4633
  v4634.toNat
def k0_dev196 (d0 : Dev nD) : Nat :=
  let c0_i32_7587 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_7586 : BitVec 32 := 1#32
  let v4656 : BitVec 32 := Scalar.muli v4 c1_i32_7586
  let v4657 : BitVec 32 := Scalar.addi c0_i32_7587 v4656
  v4657.toNat
def k0_dev197 (d0 : Dev nD) : Nat :=
  let c0_i32_7631 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_7630 : BitVec 32 := 1#32
  let v4682 : BitVec 32 := Scalar.muli v4 c1_i32_7630
  let v4683 : BitVec 32 := Scalar.addi c0_i32_7631 v4682
  v4683.toNat
def k0_dev198 (d0 : Dev nD) : Nat :=
  let c0_i32_7667 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_7666 : BitVec 32 := 1#32
  let v4704 : BitVec 32 := Scalar.muli v7 c1_i32_7666
  let v4705 : BitVec 32 := Scalar.addi c0_i32_7667 v4704
  v4705.toNat
def k0_dev199 (d0 : Dev nD) : Nat :=
  let c0_i32_7711 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_7710 : BitVec 32 := 1#32
  let v4730 : BitVec 32 := Scalar.muli v7 c1_i32_7710
  let v4731 : BitVec 32 := Scalar.addi c0_i32_7711 v4730
  v4731.toNat
def k0_dev200 (d0 : Dev nD) : Nat :=
  let c0_i32_7748 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_7747 : BitVec 32 := 1#32
  let v4753 : BitVec 32 := Scalar.muli v4 c1_i32_7747
  let v4754 : BitVec 32 := Scalar.addi c0_i32_7748 v4753
  v4754.toNat
def k0_dev201 (d0 : Dev nD) : Nat :=
  let c0_i32_7792 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_7791 : BitVec 32 := 1#32
  let v4779 : BitVec 32 := Scalar.muli v4 c1_i32_7791
  let v4780 : BitVec 32 := Scalar.addi c0_i32_7792 v4779
  v4780.toNat
def k0_dev202 (d0 : Dev nD) : Nat :=
  let c0_i32_7828 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_7827 : BitVec 32 := 1#32
  let v4801 : BitVec 32 := Scalar.muli v7 c1_i32_7827
  let v4802 : BitVec 32 := Scalar.addi c0_i32_7828 v4801
  v4802.toNat
def k0_dev203 (d0 : Dev nD) : Nat :=
  let c0_i32_7872 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_7871 : BitVec 32 := 1#32
  let v4827 : BitVec 32 := Scalar.muli v7 c1_i32_7871
  let v4828 : BitVec 32 := Scalar.addi c0_i32_7872 v4827
  v4828.toNat
def k0_dev204 (d0 : Dev nD) : Nat :=
  let c0_i32_7909 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_7908 : BitVec 32 := 1#32
  let v4850 : BitVec 32 := Scalar.muli v4 c1_i32_7908
  let v4851 : BitVec 32 := Scalar.addi c0_i32_7909 v4850
  v4851.toNat
def k0_dev205 (d0 : Dev nD) : Nat :=
  let c0_i32_7953 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_7952 : BitVec 32 := 1#32
  let v4876 : BitVec 32 := Scalar.muli v4 c1_i32_7952
  let v4877 : BitVec 32 := Scalar.addi c0_i32_7953 v4876
  v4877.toNat
def k0_dev206 (d0 : Dev nD) : Nat :=
  let c0_i32_7989 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_7988 : BitVec 32 := 1#32
  let v4898 : BitVec 32 := Scalar.muli v7 c1_i32_7988
  let v4899 : BitVec 32 := Scalar.addi c0_i32_7989 v4898
  v4899.toNat
def k0_dev207 (d0 : Dev nD) : Nat :=
  let c0_i32_8033 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_8032 : BitVec 32 := 1#32
  let v4924 : BitVec 32 := Scalar.muli v7 c1_i32_8032
  let v4925 : BitVec 32 := Scalar.addi c0_i32_8033 v4924
  v4925.toNat
def k0_dev208 (d0 : Dev nD) : Nat :=
  let c0_i32_8070 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_8069 : BitVec 32 := 1#32
  let v4947 : BitVec 32 := Scalar.muli v4 c1_i32_8069
  let v4948 : BitVec 32 := Scalar.addi c0_i32_8070 v4947
  v4948.toNat
def k0_dev209 (d0 : Dev nD) : Nat :=
  let c0_i32_8114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_8113 : BitVec 32 := 1#32
  let v4973 : BitVec 32 := Scalar.muli v4 c1_i32_8113
  let v4974 : BitVec 32 := Scalar.addi c0_i32_8114 v4973
  v4974.toNat
def k0_dev210 (d0 : Dev nD) : Nat :=
  let c0_i32_8150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_8149 : BitVec 32 := 1#32
  let v4995 : BitVec 32 := Scalar.muli v7 c1_i32_8149
  let v4996 : BitVec 32 := Scalar.addi c0_i32_8150 v4995
  v4996.toNat
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Shape.lean ====
/-
The kernel's body as a structured program: sixteen rings (a direction and a strip of columns each),
the entry handshake, one start per ring, six passing hops and one closing hop per ring, in the order
the kernel runs them.  `body_eq` says the printed body IS this program.
-/
module

public import proofs.«01_k».proof.Proof.Gen.KernelIdeal
public import Idealize.ShloMosaic.Lib.Pipeline.Regions

@[expose] public section

noncomputable section

namespace Cert.KernelIdeal.Rs

open Cert.KernelIdeal Cert.KernelIdeal.Gen
open Idealize.ShloMosaic Idealize.ShloMosaic.TcCoe
open Idealize.SL.Sem

variable {F : FTy → Type} [FloatOps F]

/-! ## Memrefs -/

abbrev xM : Memref sig .tc .vmem S4096x512 .bf16 := Memref.whole cc0_stg0_0
abbrev wM : Memref sig .tc .vmem S512x8192 .bf16 := Memref.whole cc0_stg1_0
abbrev oM : Memref sig .tc .vmem S512x8192 .bf16 := Memref.whole cc0_stg2_0
abbrev cM : Memref sig .tc .vmem S2x8x2x512x512 .bf16 := Memref.whole cc0_scratch0

/-- The slot a hop sends from; the slot it lands in is the next hop's. -/
def slotOf (h : ℕ) : Fin 2 := ⟨h % 2, Nat.mod_lt _ Nat.two_pos⟩

/-- Where slot `s` of ring `n` lies in the communication buffer. -/
abbrev slotAt (n : Fin 16) (s : Fin 2) : Fin 5 → ℕ := ![n.val % 2, n.val / 2, s.val, 0, 0]

theorem slot_inb : ∀ (n : Fin 16) (s : Fin 2) (a : Fin 5), slotAt n s a + S1x1x1x512x512.size a ≤ S2x8x2x512x512.size a := by decide

abbrev slotR (n : Fin 16) (s : Fin 2) : Rect S2x8x2x512x512 := Rect.unit (s := S2x8x2x512x512) (slotAt n s) S1x1x1x512x512.size (slot_inb n s)

theorem slot_packed : ∀ (n : Fin 16) (s : Fin 2), (slotR n s).PackedRows (EltTy.packing .bf16) := by decide
theorem slot_words : ∀ (n : Fin 16) (s : Fin 2), (slotR n s).WholeWords (EltTy.packing .bf16) := by decide

abbrev slotM (n : Fin 16) (s : Fin 2) : Memref sig .tc .vmem S512x512 .bf16 :=
  (cM.slice (slotR n s) (fun _ => rfl)).squeeze S512x512 squeezes_S1x1x1x512x512_S512x512

theorem slotM_exact (n : Fin 16) (s : Fin 2) : (slotM n s).view.WordExact :=
  ((Memref.isWhole_whole cc0_scratch0).wordExact_slice rfl _ (slot_words n s)).reshape _ _

theorem sem3_inb : ∀ (n : Fin 16) (s : Fin 2) (a : Fin 3), (![n.val % 2, n.val / 2, s.val] : Fin 3 → ℕ) a + S1x1x1.size a ≤ S2x8x2.size a := by decide
theorem sem2_inb : ∀ (n : Fin 16) (a : Fin 2), (![n.val % 2, n.val / 2] : Fin 2 → ℕ) a + S1x1.size a ≤ S2x8.size a := by decide

/-- Ring `n`'s send semaphore of slot `s`; its receive semaphore; its credit semaphore; the barrier. -/
abbrev sendQ (n : Fin 16) (s : Fin 2) : DmaSem sig :=
  ((cc0_scratch1.slice (Rect.unit (s := S2x8x2) ![n.val % 2, n.val / 2, s.val] S1x1x1.size (sem3_inb n s))).squeeze S_ squeezes_S1x1x1_S_).sem
abbrev recvQ (n : Fin 16) (s : Fin 2) : DmaSem sig :=
  ((cc0_scratch2.slice (Rect.unit (s := S2x8x2) ![n.val % 2, n.val / 2, s.val] S1x1x1.size (sem3_inb n s))).squeeze S_ squeezes_S1x1x1_S_).sem
abbrev credQ (n : Fin 16) : Sem sig :=
  ((cc0_scratch3.slice (Rect.unit (s := S2x8) ![n.val % 2, n.val / 2] S1x1.size (sem2_inb n))).squeeze S_ squeezes_S1x1_S_).sem
abbrev barQ : Sem sig := (SemArray.scalar (sig.barrier 0 rfl) : Sems sig S_).sem

/-! ## Neighbours and rectangles -/

abbrev leftD (c : Dev nD) : Dev nD := ⟨k0_dev1 c, k0_dev1_lt c⟩
abbrev rightD (c : Dev nD) : Dev nD := ⟨k0_dev2 c, k0_dev2_lt c⟩

/-- The device ring `n` sends to, and the one it receives from. -/
def dstD (n : Fin 16) (c : Dev nD) : Dev nD := if n.val % 2 = 0 then rightD c else leftD c
def srcD (n : Fin 16) (c : Dev nD) : Dev nD := if n.val % 2 = 0 then leftD c else rightD c

/-- The rows of `x` ring `n` starts from, and those it adds at hop `h`. -/
def rowsP (n : Fin 16) (c : Dev nD) : Fin 2 → ℕ := if n.val % 2 = 0 then k0_off1 c else k0_off2 c
def rowsH (n : Fin 16) (h : ℕ) (c : Dev nD) : Fin 2 → ℕ := if n.val % 2 = 0 then k0_off3 c (BitVec.ofNat 32 h) else k0_off4 c (BitVec.ofNat 32 h)

theorem rowsP_inb (n : Fin 16) (c : Dev nD) : ∀ a, rowsP n c a + S512x512.size a ≤ S4096x512.size a := by
  unfold rowsP; split
  · exact k0_off1_inb c
  · exact k0_off2_inb c
theorem rowsH_inb (n : Fin 16) (h : Fin 7) (c : Dev nD) : ∀ a, rowsH n h.val c a + S512x512.size a ≤ S4096x512.size a := by
  unfold rowsH; split
  · exact k0_off3_inb c h
  · exact k0_off4_inb c h

abbrev colAt (n : Fin 16) : Fin 2 → ℕ := ![0, n.val % 2 * 4096 + n.val / 2 * 512]
theorem col_inb : ∀ (n : Fin 16) (a : Fin 2), colAt n a + S512x512.size a ≤ S512x8192.size a := by decide
abbrev colR (n : Fin 16) : Rect S512x8192 := Rect.unit (s := S512x8192) (colAt n) S512x512.size (col_inb n)
theorem col_packed : ∀ n : Fin 16, (colR n).PackedRows (EltTy.packing .bf16) := by decide

abbrev rowsPR (n : Fin 16) (c : Dev nD) : Rect S4096x512 := Rect.unit (s := S4096x512) (rowsP n c) S512x512.size (rowsP_inb n c)
abbrev rowsHR (n : Fin 16) (h : Fin 7) (c : Dev nD) : Rect S4096x512 := Rect.unit (s := S4096x512) (rowsH n h.val c) S512x512.size (rowsH_inb n h c)

/-! ## Values -/

/-- The product of a block of rows of `x` with a strip of `w`, accumulated in single precision. -/
def prodV (x w : FVec F S512x512 .bf16) : FVec F S512x512 .f32 :=
  matmul dot_S512x512_S512x512_S512x512_1_0_0_1_n_n none (shapeCast S512x512 x shapeCasts_S512x512_S512x512)
    (shapeCast S512x512 w shapeCasts_S512x512_S512x512) (constant S512x512 .f32 0x00000000#32)

/-- What arrived, widened, plus the product of this hop. -/
def addV (a : FVec F S1x1x1x512x512 .bf16) (x w : FVec F S512x512 .bf16) : FVec F S512x512 .f32 :=
  addf (extf .f32 (shapeCast S512x512 a shapeCasts_S1x1x1x512x512_S512x512) bitsLt_bf16_f32) (prodV x w)

/-- Rounded and laid out as one slot. -/
def packV (a : FVec F S512x512 .f32) : FVec F S1x1x1x512x512 .bf16 :=
  shapeCast S1x1x1x512x512 (truncf .bf16 a bitsLt_bf16_f32) shapeCasts_S512x512_S1x1x1x512x512

/-- Clamped below at zero and rounded: a strip of the result. -/
def closeV (a : FVec F S512x512 .f32) : FVec F S512x512 .bf16 :=
  truncf .bf16 (maximumf a (broadcast S512x512 (Scalar.ofBits .f32 0x00000000#32))) bitsLt_bf16_f32

/-! ## The program's pieces -/

/-- A program of one core of the kernel. -/
abbrev KProg (F : FTy → Type) : Type 1 := Prog (TpuEff nD τ sig (Elt F) Λ₀ .tc) PUnit

/-- The entry handshake: a unit to each neighbour's barrier, two awaited on one's own. -/
def handshake (c : Dev nD) : KProg F := do
  semSignalWord (leftD c) barQ 1#32
  semSignalWord (rightD c) barQ 1#32
  semWaitWord barQ 2#32

/-- The transfer of ring `n` from slot `s` to the next device's other slot. -/
def send (n : Fin 16) (s s' : Fin 2) (c : Dev nD) : KProg F :=
  Prog.lift (.enqueueDma (slotM n s) (.remote (Dev.tc (dstD n c)) (slotM n s') (.dma (sendQ n s))) (.dma (recvQ n s'))
    (slotM_exact n s) (slotM_exact n s') ⟨⟨rfl, Or.inl rfl⟩, trivial⟩)

/-- A slot overwritten, after the read of it the store is printed with. -/
def put (n : Fin 16) (s : Fin 2) (v : FVec F S1x1x1x512x512 .bf16) : KProg F := do
  let _ : Vec F S1x1x1x512x512 .bf16 ← Prog.lift (.load cM (slotR n s).toLoadRect (View.loadsAt_vmem h_S1x1x1x512x512))
  Prog.lift (.store cM (slotR n s) v Finset.univ (View.stores_vmem h_S1x1x1x512x512 ((Memref.isWhole_whole cc0_scratch0).storeExact_slice rfl _ (slot_packed n s)) (fun _ => rfl)) (.inl rfl))

/-- Ring `n` begun: its first product, sent. -/
def begin (n : Fin 16) (c : Dev nD) : KProg F := do
  let x : Vec F S512x512 .bf16 ← Prog.lift (.load xM (rowsPR n c).toLoadRect (View.loadsAt_vmem h_S512x512))
  let w : Vec F S512x512 .bf16 ← Prog.lift (.load wM (colR n).toLoadRect (View.loadsAt_vmem h_S512x512))
  put n 0 (packV (prodV x w))
  send n 0 1 c

/-- The two waits a hop opens with: the arrival, and the departure of what it sent. -/
def waits (n : Fin 16) (s s' : Fin 2) : KProg F := do
  Prog.lift (.waitDma2 (recvQ n s') (slotM n s') (slotM n s') (slotM_exact n s') (slotM_exact n s'))
  Prog.lift (.waitDma2 (sendQ n s) (slotM n s') (slotM n s) (slotM_exact n s') (slotM_exact n s))

/-- A passing hop of ring `n`: arrival, credit up the ring, the sum of this hop, credit awaited, sent on. -/
def pass (n : Fin 16) (h : Fin 7) (s s' : Fin 2) (c : Dev nD) : KProg F := do
  waits n s s'
  semSignalWord (srcD n c) (credQ n) 1#32
  let a : Vec F S1x1x1x512x512 .bf16 ← Prog.lift (.load cM (slotR n s').toLoadRect (View.loadsAt_vmem h_S1x1x1x512x512))
  let x : Vec F S512x512 .bf16 ← Prog.lift (.load xM (rowsHR n h c).toLoadRect (View.loadsAt_vmem h_S512x512))
  let w : Vec F S512x512 .bf16 ← Prog.lift (.load wM (colR n).toLoadRect (View.loadsAt_vmem h_S512x512))
  put n s' (packV (addV a x w))
  semWaitWord (credQ n) 1#32
  send n s' s c

/-- The closing hop of ring `n`: arrival, the last sum, its strip of the result. -/
def close (n : Fin 16) (c : Dev nD) : KProg F := do
  waits n 0 1
  let a : Vec F S1x1x1x512x512 .bf16 ← Prog.lift (.load cM (slotR n 1).toLoadRect (View.loadsAt_vmem h_S1x1x1x512x512))
  let x : Vec F S512x512 .bf16 ← Prog.lift (.load xM (rowsHR n 6 c).toLoadRect (View.loadsAt_vmem h_S512x512))
  let w : Vec F S512x512 .bf16 ← Prog.lift (.load wM (colR n).toLoadRect (View.loadsAt_vmem h_S512x512))
  let _ : Vec F S512x512 .bf16 ← Prog.lift (.load oM (colR n).toLoadRect (View.loadsAt_vmem h_S512x512))
  Prog.lift (.store oM (colR n) (closeV (addV a x w)) Finset.univ (View.stores_vmem h_S512x512 ((Memref.isWhole_whole cc0_stg2_0).storeExact_slice rfl _ (col_packed n)) (fun _ => rfl)) (.inl rfl))

/-- The ring event `t` is of: the kernel takes the sixteen rings in turn, eight times over. -/
def ringAt (t : ℕ) : Fin 16 := ⟨t % 16, Nat.mod_lt _ (by decide)⟩
/-- The turn event `t` is in. -/
def turnAt (t : ℕ) : ℕ := t / 16

/-- A hop number as an index of the rows table. -/
def hop (h : ℕ) : Fin 7 := ⟨h % 7, Nat.mod_lt _ (by decide)⟩

/-- Ring `n`'s event of turn `e`: begun in turn zero, closed in turn seven, a passing hop between. -/
def event (n : Fin 16) (c : Dev nD) : ℕ → KProg F
  | 0 => begin n c
  | 7 => close n c
  | h + 1 => pass n (hop h) (slotOf h) (slotOf (h + 1)) c

/-- The whole of a core's run after it has read its place. -/
def whole (c : Dev nD) : KProg F :=
  Pipeline.chain (handshake c :: (List.range 128).map fun t => event (ringAt t) c (turnAt t))

set_option maxRecDepth 10000 in
theorem body_eq : cc0_body (F := F) xM (Memref.isWhole_whole _) wM (Memref.isWhole_whole _) oM (Memref.isWhole_whole _) cM (Memref.isWhole_whole _) cc0_scratch1 cc0_scratch2 cc0_scratch3
    = Prog.op .deviceId fun c => whole c := by chain_rfl

end Cert.KernelIdeal.Rs
-- ==== Proof.Proto.lean ====
/-
The cross-device protocol of the sixteen rings: the cells (a barrier per device; per ring two send
cells, two receive cells and one credit cell), the rounds of each with what they hand over, the levels
by which every wait is above no debt, and what each device owes at launch.
-/
module

public import proofs.«01_k».proof.Proof.Shape
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Rs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds and the rings' -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Neighbours -/

theorem left_right (c : Dev nD) : leftD (rightD c) = c := by revert c; decide
theorem right_left (c : Dev nD) : rightD (leftD c) = c := by revert c; decide

theorem src_dst (n : Fin 16) (c : Dev nD) : srcD n (dstD n c) = c := by
  unfold srcD dstD; split
  · exact left_right c
  · exact right_left c
theorem dst_src (n : Fin 16) (c : Dev nD) : dstD n (srcD n c) = c := by
  unfold srcD dstD; split
  · exact right_left c
  · exact left_right c

/-- A ring's neighbour map, as a permutation of the devices. -/
def around (n : Fin 16) : Dev nD ≃ Dev nD := ⟨dstD n, srcD n, src_dst n, dst_src n⟩

theorem slot_step (h : ℕ) : slotOf (h + 2) = slotOf h := Fin.ext (Nat.add_mod_right h 2)

/-! ## The cells -/

/-- A device's cells of the rings, without its barrier: per ring and slot a send and a receive cell, per ring a credit cell. -/
abbrev Own : Type := (Fin 16 × Fin 2) ⊕ (Fin 16 × Fin 2) ⊕ Fin 16

/-- The kernel's own semaphores. -/
def osem : Own → SemLoc sig
  | .inl p => .dma (sendQ p.1 p.2)
  | .inr (.inl p) => .dma (recvQ p.1 p.2)
  | .inr (.inr n) => .reg (credQ n)

/-- All of a device's cells: those and the barrier. -/
abbrev Cell : Type := Option Own
def csem : Cell → SemLoc sig
  | none => .reg barQ
  | some k => osem k

abbrev sendK (n : Fin 16) (s : Fin 2) : Cell := some (.inl (n, s))
abbrev recvK (n : Fin 16) (s : Fin 2) : Cell := some (.inr (.inl (n, s)))
abbrev credK (n : Fin 16) : Cell := some (.inr (.inr n))

/-- The number of a semaphore among those of its pool, with the pool's mark. -/
def semNo : SemLoc sig → ℕ × ℕ
  | .dma q => (0, q.val)
  | .reg q => (1, q.val)

theorem send_no : ∀ (n : Fin 16) (s : Fin 2), semNo (.dma (sendQ n s)) = (0, (sendQ 0 0).val + (n.val % 2 * 16 + n.val / 2 * 2 + s.val)) := by decide +kernel
theorem recv_no : ∀ (n : Fin 16) (s : Fin 2), semNo (.dma (recvQ n s)) = (0, (sendQ 0 0).val + 32 + (n.val % 2 * 16 + n.val / 2 * 2 + s.val)) := by decide +kernel
theorem cred_no : ∀ n : Fin 16, semNo (.reg (credQ n)) = (1, (credQ 0).val + (n.val % 2 * 8 + n.val / 2)) := by decide +kernel
theorem bar_reg : semNo (.reg barQ) = (1, (barQ : Fin _).val) := rfl
theorem bar_no : ∀ n : Fin 16, (barQ : Fin _).val ≠ (credQ 0).val + (n.val % 2 * 8 + n.val / 2) := by decide +kernel

theorem csem_injective : Function.Injective csem := by
  intro a b h
  have hn : semNo (csem a) = semNo (csem b) := congrArg _ h
  rcases a with _ | ⟨n, s⟩ | ⟨n, s⟩ | n <;> rcases b with _ | ⟨n', s'⟩ | ⟨n', s'⟩ | n' <;>
    simp only [csem, osem, send_no, recv_no, cred_no, bar_reg, Prod.mk.injEq] at hn
  all_goals first
    | rfl
    | exact absurd hn.1 (by decide)
    | (exfalso; have h2 := hn.2; have := n.isLt; have := n'.isLt; have := s.isLt; have := s'.isLt; omega)
    | (obtain ⟨rfl, rfl⟩ : n = n' ∧ s = s' := by
        have h2 := hn.2; have := n.isLt; have := n'.isLt; have := s.isLt; have := s'.isLt
        exact ⟨Fin.ext (by omega), Fin.ext (by omega)⟩
       rfl)
    | (obtain rfl : n = n' := by
        have h2 := hn.2; have := n.isLt; have := n'.isLt
        exact Fin.ext (by omega)
       rfl)
    | (exact absurd hn.2 (bar_no _))
    | (exact absurd hn.2.symm (bar_no _))

/-- The cell a semaphore is, if it is one of the rings'. -/
def dec : SemLoc sig → Option Cell := Function.partialInv csem
theorem dec_csem (k : Cell) : dec (csem k) = some k := Function.partialInv_left csem_injective k

/-- Cell `k` of device `c`. -/
abbrev cellAt (c : Dev nD) (k : Cell) : GSem nD τ sig := ((c : Thread nD τ), csem k)
abbrev barC (c : Dev nD) : GSem nD τ sig := ((c : Thread nD τ), .reg barQ)
abbrev sendC (c : Dev nD) (n : Fin 16) (s : Fin 2) : GSem nD τ sig := ((c : Thread nD τ), .dma (sendQ n s))
abbrev recvC (c : Dev nD) (n : Fin 16) (s : Fin 2) : GSem nD τ sig := ((c : Thread nD τ), .dma (recvQ n s))
abbrev credC (c : Dev nD) (n : Fin 16) : GSem nD τ sig := ((c : Thread nD τ), .reg (credQ n))

theorem dec_bar : dec (.reg barQ) = some none := dec_csem none
theorem dec_send (n : Fin 16) (s : Fin 2) : dec (.dma (sendQ n s)) = some (sendK n s) := dec_csem (sendK n s)
theorem dec_recv (n : Fin 16) (s : Fin 2) : dec (.dma (recvQ n s)) = some (recvK n s) := dec_csem (recvK n s)
theorem dec_cred (n : Fin 16) : dec (.reg (credQ n)) = some (credK n) := dec_csem (credK n)

/-- The credit of one slot's transfer. -/
abbrev N : ℕ := (slotM 0 0).view.dmaCredit
theorem N_pos : 0 < N := View.dmaCredit_pos _ (by decide)

/-! ## Contents -/

abbrev cBuf : Ref sig .tc := cc0_scratch0

/-- The view of slot `s` of ring `n`. -/
abbrev slotV (n : Fin 16) (s : Fin 2) := (cM.access (slotR n s) : View sig .tc _ _ _)

/-- What a slot holds, read as one block. -/
def slotRead (n : Fin 16) (s : Fin 2) (f : cBuf.ty.Contents (Elt F)) : FVec F S1x1x1x512x512 .bf16 :=
  (slotV n s).read (Elt F) f

/-- Device `c`'s slot `s` of ring `n` at contents `f`. -/
def slotPts (c : Dev nD) (n : Fin 16) (s : Fin 2) (f : Buf (Elt F) ((c : Thread nD τ).loc cBuf)) : sProp 𝕄 :=
  ((c : Thread nD τ).loc cBuf) ↦[(slotV n s).set]{fullShare} f
/-- … at any contents; -/
def slotAny (c : Dev nD) (n : Fin 16) (s : Fin 2) : sProp 𝕄 := iprop(∃ f, slotPts c n s f)
/-- … holding the block `v`. -/
def slotIs (c : Dev nD) (n : Fin 16) (s : Fin 2) (v : FVec F S1x1x1x512x512 .bf16) : sProp 𝕄 :=
  iprop(∃ f, ⌜slotRead n s f = v⌝ ∗ slotPts c n s f)

omit [FloatOps F] in
instance slotPts_storable (c : Dev nD) (n s f) : BI.Storable (upEmb : UEmb _ 𝕄) (slotPts (F := F) c n s f) := by unfold slotPts; infer_instance
omit [FloatOps F] in
instance slotAny_storable (c : Dev nD) (n s) : BI.Storable (upEmb : UEmb _ 𝕄) (slotAny (F := F) c n s) := by unfold slotAny; infer_instance
omit [FloatOps F] in
instance slotIs_storable (c : Dev nD) (n s v) : BI.Storable (upEmb : UEmb _ 𝕄) (slotIs (F := F) c n s v) := by unfold slotIs; infer_instance

variable (X : Dev nD → FVec F S4096x512 .bf16) (Wt : Dev nD → FVec F S512x8192 .bf16)

/-- The rows of `x` and the strip of `w` read off. -/
def xRead (r : Rect S4096x512) (f : FVec F S4096x512 .bf16) : FVec F r.shape .bf16 := (xM.access r : View sig .tc _ _ _).read (Elt F) f
def wRead (n : Fin 16) (f : FVec F S512x8192 .bf16) : FVec F S512x512 .bf16 := (wM.access (colR n) : View sig .tc _ _ _).read (Elt F) f

/-- What ring `n` sends from device `c` at hop `h`: its own product first, then what arrived with its product added. -/
def part (n : Fin 16) : ℕ → Dev nD → FVec F S1x1x1x512x512 .bf16
  | 0, c => packV (prodV (xRead (rowsPR n c) (X c)) (wRead n (Wt c)))
  | h + 1, c => packV (addV (part n h (srcD n c)) (xRead (rowsHR n (hop h) c) (X c)) (wRead n (Wt c)))

/-- The strip of the result ring `n` closes with on device `c`. -/
def resV (n : Fin 16) (c : Dev nD) : FVec F S512x512 .bf16 :=
  closeV (addV (part X Wt n 6 (srcD n c)) (xRead (rowsHR n 6 c) (X c)) (wRead n (Wt c)))

/-! ## The schedule -/

/-- Whether ring `n` is one of those the handshake's duty `d` frees the slots of. -/
abbrev dirOf (d : Bool) : Finset (Fin 16) := Finset.univ.filter fun n => decide (n.val % 2 = 0) = d

/-- A barrier's duty hands over the landing slots of the rings that send to its payer. -/
def barPay (c : Dev nD) (d : Bool) : sProp 𝕄 := bigSep (dirOf d) fun n => slotAny (dstD n c) n 1
/-- An arrival hands over the slot holding what was sent, and that the sender stands at that round of its credits. -/
def recvPay (c : Dev nD) (n : Fin 16) (h : ℕ) : sProp 𝕄 :=
  iprop(slotIs c n (slotOf (h + 1)) (part X Wt n h (srcD n c)) ∗ reached ER (credC (srcD n c) n) h)
/-- A credit hands over the next landing slot, and that its owner stands at the landing's round. -/
def credPay (c : Dev nD) (n : Fin 16) (j : ℕ) : sProp 𝕄 :=
  iprop(slotAny (dstD n c) n (slotOf j) ∗ reached ER (recvC (dstD n c) n (slotOf j)) ((j + 1) / 2))

/-- The duties of a cell's round. -/
def dutiesK : Cell → ℕ → Finset Bool
  | none, r => if r < 1 then Finset.univ else ∅
  | some (.inl (_, s)), r => if r < 4 - s.val then {false} else ∅
  | some (.inr (.inl (_, s))), r => if r < 3 + s.val then {false} else ∅
  | some (.inr (.inr _)), r => if r < 6 then {false} else ∅

def amountK : Cell → ℕ
  | none => 1
  | some (.inl _) => N
  | some (.inr (.inl _)) => N
  | some (.inr (.inr _)) => 1

def payK (c : Dev nD) : Cell → ℕ → Bool → sProp 𝕄
  | none, _, d => barPay c d
  | some (.inl (n, s)), _, _ => slotAny c n s
  | some (.inr (.inl (n, s))), r, _ => recvPay X Wt c n (2 * r + (1 - s.val))
  | some (.inr (.inr n)), r, _ => credPay c n r

def ringRd : Rounds.Schedule (GSem nD τ sig) Bool 𝕄 where
  duties g r := if g.1.2 = .tc then (dec g.2).elim ∅ fun k => dutiesK k r else ∅
  unitless _ := False
  amount g _ _ := (dec g.2).elim 1 amountK
  payload g r d := (dec g.2).elim iprop(emp) fun k => payK X Wt g.1.1 k r d
  amount_pos g _ _ _ := by
    rcases dec g.2 with _ | _ | ⟨_, _⟩ | ⟨_, _⟩ | _
    · exact Nat.one_pos
    · exact Nat.one_pos
    · exact N_pos
    · exact N_pos
    · exact Nat.one_pos

instance ringRd_payload_storable (g : GSem nD τ sig) (r : ℕ) (d : Bool) :
    BI.Storable (upEmb : UEmb _ 𝕄) ((ringRd (F := F) X Wt).payload g r d) := by
  show BI.Storable upEmb ((dec g.2).elim iprop(emp) fun k => payK X Wt g.1.1 k r d)
  rcases dec g.2 with _ | _ | ⟨_, _⟩ | ⟨_, _⟩ | _
  · show BI.Storable upEmb iprop(emp); infer_instance
  · show BI.Storable upEmb (barPay _ _); unfold barPay; infer_instance
  · show BI.Storable upEmb (slotAny _ _ _); infer_instance
  · show BI.Storable upEmb (recvPay _ _ _ _ _); unfold recvPay; infer_instance
  · show BI.Storable upEmb (credPay _ _ _); unfold credPay; infer_instance

section Tables
variable (c : Dev nD) (n : Fin 16) (h : ℕ) (d : Bool)

theorem duties_at (k : Cell) (r : ℕ) : (ringRd (F := F) X Wt).duties (cellAt c k) r = dutiesK k r := by
  show (if (cellAt c k).1.2 = .tc then (dec (csem k)).elim ∅ fun k => dutiesK k r else ∅) = _
  rw [if_pos rfl, dec_csem]; rfl
theorem amount_at (k : Cell) (r : ℕ) : (ringRd (F := F) X Wt).amount (cellAt c k) r d = amountK k := by
  show (dec (csem k)).elim 1 amountK = _
  rw [dec_csem]; rfl
theorem payload_at (k : Cell) (r : ℕ) : (ringRd (F := F) X Wt).payload (cellAt c k) r d = payK X Wt c k r d := by
  show (dec (csem k)).elim iprop(emp) (fun k => payK X Wt c k r d) = _
  rw [dec_csem]; rfl

theorem duties_bar : (ringRd (F := F) X Wt).duties (barC c) 0 = Finset.univ :=
  (duties_at X Wt c none 0).trans (by show (if 0 < 1 then (Finset.univ : Finset Bool) else ∅) = _; exact if_pos Nat.one_pos)
theorem duties_send (hh : h < 7) : (ringRd (F := F) X Wt).duties (sendC c n (slotOf h)) (h / 2) = {false} :=
  (duties_at X Wt c (sendK n (slotOf h)) (h / 2)).trans (if_pos (by show h / 2 < 4 - h % 2; omega))
theorem duties_recv (hh : h < 7) : (ringRd (F := F) X Wt).duties (recvC c n (slotOf (h + 1))) (h / 2) = {false} :=
  (duties_at X Wt c (recvK n (slotOf (h + 1))) (h / 2)).trans (if_pos (by show h / 2 < 3 + (h + 1) % 2; omega))
theorem duties_cred (hh : h < 6) : (ringRd (F := F) X Wt).duties (credC c n) h = {false} :=
  (duties_at X Wt c (credK n) h).trans (if_pos hh)

theorem amount_bar (r : ℕ) : (ringRd (F := F) X Wt).amount (barC c) r d = 1 := amount_at X Wt c d none r
theorem amount_send (s : Fin 2) (r : ℕ) : (ringRd (F := F) X Wt).amount (sendC c n s) r d = N := amount_at X Wt c d (sendK n s) r
theorem amount_recv (s : Fin 2) (r : ℕ) : (ringRd (F := F) X Wt).amount (recvC c n s) r d = N := amount_at X Wt c d (recvK n s) r
theorem amount_cred (r : ℕ) : (ringRd (F := F) X Wt).amount (credC c n) r d = 1 := amount_at X Wt c d (credK n) r

theorem payload_bar (r : ℕ) : (ringRd (F := F) X Wt).payload (barC c) r d = barPay c d := payload_at X Wt c d none r
theorem payload_send (s : Fin 2) (r : ℕ) : (ringRd (F := F) X Wt).payload (sendC c n s) r d = slotAny c n s :=
  payload_at X Wt c d (sendK n s) r
theorem payload_recv : (ringRd (F := F) X Wt).payload (recvC c n (slotOf (h + 1))) (h / 2) d = recvPay X Wt c n h :=
  (payload_at X Wt c d (recvK n (slotOf (h + 1))) (h / 2)).trans
    (congrArg (recvPay X Wt c n) (show 2 * (h / 2) + (1 - (h + 1) % 2) = h by omega))
theorem payload_cred : (ringRd (F := F) X Wt).payload (credC c n) h d = credPay c n h := payload_at X Wt c d (credK n) h

theorem expect_bar : (ringRd (F := F) X Wt).expect (barC c) 0 = 2 := by
  unfold Schedule.expect Schedule.amountOf
  rw [duties_bar, Finset.sum_congr rfl fun d _ => amount_bar X Wt c d 0, Finset.sum_const, Finset.card_univ, Fintype.card_bool, smul_eq_mul]
theorem expect_send (hh : h < 7) : (ringRd (F := F) X Wt).expect (sendC c n (slotOf h)) (h / 2) = N := by
  unfold Schedule.expect Schedule.amountOf
  rw [duties_send X Wt c n h hh, Finset.sum_singleton, amount_send]
theorem expect_recv (hh : h < 7) : (ringRd (F := F) X Wt).expect (recvC c n (slotOf (h + 1))) (h / 2) = N := by
  unfold Schedule.expect Schedule.amountOf
  rw [duties_recv X Wt c n h hh, Finset.sum_singleton, amount_recv]
theorem expect_cred (hh : h < 6) : (ringRd (F := F) X Wt).expect (credC c n) h = 1 := by
  unfold Schedule.expect Schedule.amountOf
  rw [duties_cred X Wt c n h hh, Finset.sum_singleton, amount_cred]

/-- The rest of a round none of whose duties is taken: what its one duty hands over. -/
theorem rest_send (hh : h < 7) : bigSep ((ringRd (F := F) X Wt).duties (sendC c n (slotOf h)) (h / 2) \ ∅)
    (fun d => (ringRd (F := F) X Wt).payload (sendC c n (slotOf h)) (h / 2) d) = slotAny c n (slotOf h) := by
  rw [Finset.sdiff_empty, duties_send X Wt c n h hh, bigSep_singleton, payload_send]
theorem rest_recv (hh : h < 7) : bigSep ((ringRd (F := F) X Wt).duties (recvC c n (slotOf (h + 1))) (h / 2) \ ∅)
    (fun d => (ringRd (F := F) X Wt).payload (recvC c n (slotOf (h + 1))) (h / 2) d) = recvPay X Wt c n h := by
  rw [Finset.sdiff_empty, duties_recv X Wt c n h hh, bigSep_singleton, payload_recv]
theorem rest_cred (hh : h < 6) : bigSep ((ringRd (F := F) X Wt).duties (credC c n) h \ ∅)
    (fun d => (ringRd (F := F) X Wt).payload (credC c n) h d) = credPay c n h := by
  rw [Finset.sdiff_empty, duties_cred X Wt c n h hh, bigSep_singleton, payload_cred]
/-- The barrier's round hands over the landing slots of all sixteen rings. -/
theorem rest_bar : bigSep ((ringRd (F := F) X Wt).duties (barC c) 0 \ ∅)
    (fun d => (ringRd (F := F) X Wt).payload (barC c) 0 d) = bigSep Finset.univ fun n => slotAny (F := F) (dstD n c) n 1 := by
  rw [Finset.sdiff_empty, duties_bar, bigSep_congr fun d _ => payload_bar X Wt c d 0,
    bigSep_filter_split Finset.univ (fun n : Fin 16 => decide (n.val % 2 = 0) = true),
    bigSep_univ_eq_bigSepL [true, false] (by decide) (by decide), bigSepL_cons_cons, bigSepL_singleton]
  unfold barPay
  rw [show (Finset.univ.filter fun n : Fin 16 => ¬ decide (n.val % 2 = 0) = true) = dirOf false from
    Finset.filter_congr fun n _ => by rw [Bool.not_eq_true]]

/-- A cell's rounds end. -/
def lastK : Cell → ℕ
  | none => 1
  | some (.inl (_, s)) => 4 - s.val
  | some (.inr (.inl (_, s))) => 3 + s.val
  | some (.inr (.inr _)) => 6
theorem duties_later (k : Cell) (r : ℕ) (hr : lastK k ≤ r) : (ringRd (F := F) X Wt).duties (cellAt c k) r = ∅ := by
  rw [duties_at]
  rcases k with _ | ⟨n, s⟩ | ⟨n, s⟩ | n <;> exact if_neg (Nat.not_lt.mpr hr)

end Tables

/-! ## What each device owes; the levels -/

/-- What event `u` owes the next device: its landing's credit. -/
def payR (c : Dev nD) (u : ℕ) : CellTallies nD τ sig ℕ :=
  tallyAt (recvC (dstD (ringAt u) c) (ringAt u) (slotOf (turnAt u + 1))) (turnAt u) N
/-- What event `u + 16` owes the device before: the credit of the slot freed. -/
def payC (c : Dev nD) (u : ℕ) : CellTallies nD τ sig ℕ := tallyAt (credC (srcD (ringAt u) c) (ringAt u)) (turnAt u) 1

/-- What is still owed before event `t`. -/
def due (c : Dev nD) (t : ℕ) : CellTallies nD τ sig ℕ :=
  (∑ u ∈ Finset.Ico t 112, payR c u) + ∑ u ∈ Finset.Ico (t - 16) 96, payC c u

/-- What is owed at launch: all of that and a unit to each neighbour's barrier. -/
def O₁ (c : Dev nD) : CellTallies nD τ sig ℕ := due c 0 + tallyAt (barC (rightD c)) 0 1
def O₀ (c : Dev nD) : CellTallies nD τ sig ℕ := O₁ c + tallyAt (barC (leftD c)) 0 1

theorem sum_first {A : Type} [AddCommMonoid A] {a b : ℕ} (hab : a < b) (f : ℕ → A) :
    (∑ u ∈ Finset.Ico a b, f u) = (∑ u ∈ Finset.Ico (a + 1) b, f u) + f a := by
  rw [show Finset.Ico a b = insert a (Finset.Ico (a + 1) b) from by
      ext u; simp only [Finset.mem_insert, Finset.mem_Ico]; omega,
    Finset.sum_insert (by simp only [Finset.mem_Ico]; omega), add_comm]

theorem due_begin (c : Dev nD) (t : ℕ) (ht : t < 16) : due c t = due c (t + 1) + payR c t := by
  unfold due
  rw [sum_first (show t < 112 by omega), show t - 16 = 0 by omega, show t + 1 - 16 = 0 by omega, add_right_comm]
theorem due_pass (c : Dev nD) (t : ℕ) (h1 : 16 ≤ t) (h2 : t < 112) : due c t = due c (t + 1) + payR c t + payC c (t - 16) := by
  unfold due
  rw [sum_first h2, sum_first (show t - 16 < 96 by omega), show t + 1 - 16 = t - 16 + 1 by omega, ← add_assoc,
    add_right_comm _ (payR c t)]
theorem due_close (c : Dev nD) (t : ℕ) (ht : 112 ≤ t) : due c t = 0 := by
  unfold due
  rw [Finset.Ico_eq_empty (by omega), Finset.Ico_eq_empty (by omega), Finset.sum_empty, Finset.sum_empty, add_zero]

/-- Whom a debt is to. -/
theorem due_pos {c : Dev nD} {t : ℕ} {g : GSem nD τ sig} {i : ℕ} (h : 0 < due c t g i) :
    (∃ u, t ≤ u ∧ u < 112 ∧ g = recvC (dstD (ringAt u) c) (ringAt u) (slotOf (turnAt u + 1)) ∧ i = turnAt u)
      ∨ ∃ u, t - 16 ≤ u ∧ u < 96 ∧ g = credC (srcD (ringAt u) c) (ringAt u) ∧ i = turnAt u := by
  unfold due at h
  rw [Pi.add_apply, Finsupp.add_apply, Finset.sum_apply, Finset.sum_apply, Finsupp.finsetSum_apply, Finsupp.finsetSum_apply] at h
  rcases Nat.eq_zero_or_pos (∑ u ∈ Finset.Ico t 112, payR c u g i) with h0 | h0
  · rw [h0, Nat.zero_add] at h
    obtain ⟨u, hu, hne⟩ := Finset.exists_ne_zero_of_sum_ne_zero (Nat.pos_iff_ne_zero.mp h)
    unfold payC at hne; rw [tallyAt_apply] at hne
    rw [Finset.mem_Ico] at hu
    by_cases hc : g = credC (srcD (ringAt u) c) (ringAt u) ∧ i = turnAt u
    · exact Or.inr ⟨u, hu.1, hu.2, hc⟩
    · exact absurd (if_neg hc) hne
  · obtain ⟨u, hu, hne⟩ := Finset.exists_ne_zero_of_sum_ne_zero (Nat.pos_iff_ne_zero.mp h0)
    unfold payR at hne; rw [tallyAt_apply] at hne
    rw [Finset.mem_Ico] at hu
    by_cases hc : g = recvC (dstD (ringAt u) c) (ringAt u) (slotOf (turnAt u + 1)) ∧ i = turnAt u
    · exact Or.inl ⟨u, hu.1, hu.2, hc⟩
    · exact absurd (if_neg hc) hne

/-- Every hop of the rings may be named at a TensorCore's cells. -/
def Lset (g : GSem nD τ sig) : Finset ℕ := if g.1.2 = .tc then Finset.range 7 else ∅
/-- A barrier stands below every ring; the rings' arrivals and credits stand in the order of the events that pay them. -/
def lv (g : GSem nD τ sig) (i : ℕ) : ℕ := (dec g.2).elim 0 fun
  | none => 1
  | some (.inl _) => 0
  | some (.inr (.inl (n, _))) => 2 + 2 * (16 * i + n.val)
  | some (.inr (.inr n)) => 3 + 2 * (16 * i + n.val)

theorem Lset_tc (c : Dev nD) (sm : SemLoc sig) : Lset ((c : Thread nD τ), sm) = Finset.range 7 := if_pos rfl
theorem Lset_of_ne (g : GSem nD τ sig) (h : g.1.2 ≠ .tc) : Lset g = ∅ := if_neg h

theorem lv_bar (c : Dev nD) (i : ℕ) : lv (barC c) i = 1 := by unfold lv; rw [show (barC c).2 = .reg barQ from rfl, dec_bar]; rfl
theorem lv_send (c : Dev nD) (n s i) : lv (sendC c n s) i = 0 := by unfold lv; rw [show (sendC c n s).2 = .dma (sendQ n s) from rfl, dec_send]; rfl
theorem lv_recv (c : Dev nD) (n s i) : lv (recvC c n s) i = 2 + 2 * (16 * i + n.val) := by
  unfold lv; rw [show (recvC c n s).2 = .dma (recvQ n s) from rfl, dec_recv]; rfl
theorem lv_cred (c : Dev nD) (n i) : lv (credC c n) i = 3 + 2 * (16 * i + n.val) := by
  unfold lv; rw [show (credC c n).2 = .reg (credQ n) from rfl, dec_cred]; rfl

theorem event_no (u : ℕ) : 16 * turnAt u + (ringAt u).val = u := by unfold turnAt ringAt; show 16 * (u / 16) + u % 16 = u; omega

theorem due_level {c : Dev nD} {t : ℕ} {g : GSem nD τ sig} {i : ℕ} (h : 0 < due c t g i) :
    i ∈ Lset g ∧ 1 < lv g i ∧ (16 ≤ t → 2 + 2 * (t - 16) < lv g i) := by
  rcases due_pos h with ⟨u, h1, h2, rfl, rfl⟩ | ⟨u, h1, h2, rfl, rfl⟩
  · rw [Lset_tc, lv_recv, event_no, Finset.mem_range]
    unfold turnAt; omega
  · rw [Lset_tc, lv_cred, event_no, Finset.mem_range]
    unfold turnAt; omega

end Cert.KernelIdeal.Rs
-- ==== Proof.Hop.lean ====
/-
One ring's steps on one device, each against what the ring holds there: the two waits of a hop, a slot
overwritten, a slot sent on.
-/
module

public import proofs.«01_k».proof.Proof.Proto

@[expose] public section

noncomputable section

namespace Cert.KernelIdeal.Rs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- The weakest precondition of a program of device `c`'s core. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem WP_bind (c : Dev nD) {α β : Type} (p : Prog (TpuEff nD τ sig (Elt F) Λ₀ .tc) α) (k : α → Prog (TpuEff nD τ sig (Elt F) Λ₀ .tc) β)
    (Q : β → sProp 𝕄) : WP c (p >>= k) Q = WP c p fun a => WP c (k a) Q := wp_bind _ _ _ _ _ _

variable (X : Dev nD → FVec F S4096x512 .bf16) (Wt : Dev nD → FVec F S512x8192 .bf16)
variable (K : Dev nD × Cell → ℕ)

/-! ## The cells' records -/

/-- Every cell's invariant under the name it was allocated at, and that every cell stands at least at round zero. -/
def recs : sProp 𝕄 :=
  iprop((bigSep Finset.univ fun ck : Dev nD × Cell => cellInv ER (ringRd X Wt) (K ck) (cellAt ck.1 ck.2))
    ∗ bigSep Finset.univ fun ck : Dev nD × Cell => reached ER (cellAt ck.1 ck.2) 0)

instance recs_persistent : BI.Persistent (recs X Wt K) := by unfold recs; infer_instance

theorem inv_at (c : Dev nD) (k : Cell) : recs X Wt K ⊢ cellInv ER (ringRd X Wt) (K (c, k)) (cellAt c k) := by
  exact (Idealize.SL.BI.Entails.trans Idealize.SL.BI.sep_and and_elimL).trans (bigSep_elim (Finset.mem_univ (c, k)))
theorem zero_at (c : Dev nD) (k : Cell) : recs X Wt K ⊢ reached ER (cellAt c k) 0 := by
  exact (Idealize.SL.BI.Entails.trans Idealize.SL.BI.sep_and and_elimR).trans (bigSep_elim (Finset.mem_univ (c, k)))

/-! ## Which waits are allowed -/

omit [FloatOps F] in
theorem mayWait_below (c : Dev nD) (sm : SemLoc sig) (i b : ℕ) (hi : i < 7) (hb : lv ((c : Thread nD τ), sm) i ≤ b)
    (O : CellTallies nD τ sig ℕ) (hO : ∀ g j, 0 < O g j → j ∈ Lset g ∧ b < lv g j) :
    (levAts Lset lv : sProp 𝕄) ⊢ MayWait (c : Thread nD τ) sm i O :=
  MayOwe.of_cut (L := Lset) (lev := lv) b
    (fun p hp => by rw [Finset.mem_singleton.mp hp, Lset_tc]; exact Finset.mem_range.mpr hi)
    (fun g j h => (hO g j h).1)
    (fun p hp => by rw [Finset.mem_singleton.mp hp]; exact hb)
    (fun g j h => (hO g j h).2)

/-! ## Slots read and written -/

omit [FloatOps F] in
/-- A slot overwritten reads what was written. -/
theorem slotRead_write (n : Fin 16) (s : Fin 2) (f : cBuf.ty.Contents (Elt F)) (v : FVec F S1x1x1x512x512 .bf16) :
    slotRead n s ((slotV n s).write (Elt F) f v Finset.univ) = v := by
  unfold slotRead
  exact View.read_write_univ (v := slotV n s) (Val := Elt F) f v

omit [FloatOps F] in
theorem slotM_set (n : Fin 16) (s : Fin 2) : (slotM n s).view.set = (slotV n s).set := View.set_reshape _ _

omit [FloatOps F] in
/-- A slot a transfer filled reads what its source slot reads. -/
theorem slotRead_sent (n : Fin 16) (s s' : Fin 2) (fd fs : cBuf.ty.Contents (Elt F)) :
    slotRead n s' ((slotM n s').view.write (Elt F) fd ((slotM n s).view.read (Elt F) fs) Finset.univ) = slotRead n s fs := by
  funext x
  have h := congrFun (View.read_write_univ (v := (slotM n s').view) (Val := Elt F) fd ((slotM n s).view.read (Elt F) fs))
    ((Shape.reshapeEquiv squeezes_S1x1x1x512x512_S512x512.numel_eq).symm x)
  have e : ∀ (t : Fin 2) (g : cBuf.ty.Contents (Elt F)),
      (slotM n t).view.read (Elt F) g ((Shape.reshapeEquiv squeezes_S1x1x1x512x512_S512x512.numel_eq).symm x) = slotRead n t g x := fun t g => by
    show slotRead n t g (Shape.reshapeEquiv squeezes_S1x1x1x512x512_S512x512.numel_eq
      ((Shape.reshapeEquiv squeezes_S1x1x1x512x512_S512x512.numel_eq).symm x)) = _
    rw [Equiv.apply_symm_apply]
  rw [e, e] at h
  exact h

/-! ## The pieces run -/

/-- A slot overwritten. -/
theorem wp_put (c : Dev nD) (n : Fin 16) (s : Fin 2) (v : FVec F S1x1x1x512x512 .bf16) (Q : PUnit → sProp 𝕄) :
    iprop(slotAny c n s ∗ (slotIs c n s v -∗ Q ⟨⟩)) ⊢ WP c (put n s v) Q := by
  unfold put slotAny
  simp only [Prog.lift, Prog.bind_op, Prog.bind_ret]
  iintro ⟨⟨%f, Hs⟩, Hk⟩
  unfold slotPts
  iapply (wp_load_rect 𝒱₀ (c : Thread nD τ) none Set.univ (m := cM) (r := slotR n s) (S := (slotV n s).set) (f := f) (q := fullShare) (Finset.Subset.refl _)) $$ Hs
  iintro Hs
  iapply (wp_store 𝒱₀ (c : Thread nD τ) none Set.univ (m := cM) (r := slotR n s) (Mk := Finset.univ) (S := (slotV n s).set) (f := f) (by rw [View.setOn_univ])) $$ Hs
  iintro Hs
  rw [wp_ret]; imodintro
  iapply Hk
  unfold slotIs slotPts
  iexists _
  isplitr
  · ipureintro; exact slotRead_write n s f v
  iexact Hs

/-- The waits of hop `h`: what arrived, and the slot it was sent from back. -/
theorem wp_waits (c : Dev nD) (n : Fin 16) (h : ℕ) (hh : h < 7) (O : CellTallies nD τ sig ℕ)
    (hO : ∀ g j, 0 < O g j → j ∈ Lset g ∧ 2 + 2 * (16 * h + n.val) < lv g j) (Q : PUnit → sProp 𝕄) :
    iprop(recs X Wt K ∗ levAts Lset lv
        ∗ cred (tallyAt (recvC c n (slotOf (h + 1))) h N) ∗ cred (tallyAt (sendC c n (slotOf h)) h N)
        ∗ atPos ER (recvC c n (slotOf (h + 1))) (h / 2) ∅ 0 ∗ atPos ER (sendC c n (slotOf h)) (h / 2) ∅ 0
        ∗ (∃ W, owes (c : Thread nD τ) O W)
        ∗ (((∃ W, owes (c : Thread nD τ) O W)
            ∗ atPos ER (recvC c n (slotOf (h + 1))) (h / 2 + 1) ∅ 0 ∗ reached ER (recvC c n (slotOf (h + 1))) (h / 2 + 1)
            ∗ atPos ER (sendC c n (slotOf h)) (h / 2 + 1) ∅ 0 ∗ reached ER (sendC c n (slotOf h)) (h / 2 + 1)
            ∗ recvPay X Wt c n h ∗ slotAny c n (slotOf h)) -∗ Q ⟨⟩))
      ⊢ WP c (waits n (slotOf h) (slotOf (h + 1))) Q := by
  unfold waits
  simp only [Prog.lift, Prog.bind_op, Prog.bind_ret]
  iintro ⟨#HR, #Hlev, HcR, HcS, HatR, HatS, ⟨%W, HO⟩, Hk⟩
  iapply (Rounds.wp_wait_rest_token 𝒱₀ ER (ringRd X Wt) (c : Thread nD τ) none (κ := K (c, recvK n (slotOf (h + 1))))
      (wpE_waitDma2_eq 𝒱₀ (c : Thread nD τ) none Set.univ) (Set.mem_univ _) h (O := O) (W := W) (R := h / 2) (m := 0) (T := ∅)
      (by rw [Nat.zero_add, expect_recv X Wt c n h hh])) $$ [HcR HO HatR]
  · isplitr; · iapply (inv_at X Wt K c (recvK n (slotOf (h + 1)))); iexact HR
    isplitl [HcR]; · iexact HcR
    isplitl [HO]; · iexact HO
    isplitr; · iapply (mayWait_below c (.dma (recvQ n (slotOf (h + 1)))) h (2 + 2 * (16 * h + n.val)) hh (le_of_eq (lv_recv c n _ h)) O hO); iexact Hlev
    iexact HatR
  iintro ⟨HO, HatR, HrR, Hpay⟩
  ihave HpR := (Entails.of_eq (rest_recv X Wt c n h hh)) $$ Hpay
  iapply (Rounds.wp_wait_rest_token 𝒱₀ ER (ringRd X Wt) (c : Thread nD τ) none (κ := K (c, sendK n (slotOf h)))
      (wpE_waitDma2_eq 𝒱₀ (c : Thread nD τ) none Set.univ) (Set.mem_univ _) h (O := O) (R := h / 2) (m := 0) (T := ∅)
      (by rw [Nat.zero_add, expect_send X Wt c n h hh])) $$ [HcS HO HatS]
  · isplitr; · iapply (inv_at X Wt K c (sendK n (slotOf h))); iexact HR
    isplitl [HcS]; · iexact HcS
    isplitl [HO]; · iexact HO
    isplitr; · iapply (mayWait_below c (.dma (sendQ n (slotOf h))) h 0 hh (le_of_eq (lv_send c n _ h)) O fun g j hg => ⟨(hO g j hg).1, by have := (hO g j hg).2; omega⟩); iexact Hlev
    iexact HatS
  iintro ⟨HO, HatS, HrS, Hpay⟩
  ihave HpS := (Entails.of_eq (rest_send X Wt c n h hh)) $$ Hpay
  rw [wp_ret]; imodintro
  iapply Hk
  isplitl [HO]; · iexists _; iexact HO
  isplitl [HatR]; · iexact HatR
  isplitl [HrR]; · iexact HrR
  isplitl [HatS]; · iexact HatS
  isplitl [HrS]; · iexact HrS
  isplitl [HpR]; · iexact HpR
  iexact HpS

/-- Hop `h`'s transfer: the slot handed to the send cell, the next device's slot filled and handed to its receive cell. -/
theorem wp_send_on (c : Dev nD) (n : Fin 16) (h : ℕ) (hh : h < 7) (O : CellTallies nD τ sig ℕ) (Q : PUnit → sProp 𝕄) :
    iprop(recs X Wt K
        ∗ slotIs c n (slotOf h) (part X Wt n h c) ∗ slotAny (dstD n c) n (slotOf (h + 1)) ∗ reached ER (credC c n) h
        ∗ (∃ W, owes (c : Thread nD τ) (O + tallyAt (recvC (dstD n c) n (slotOf (h + 1))) h N) W)
        ∗ dutyTok ER (sendC c n (slotOf h)) (h / 2) false ∗ reached ER (sendC c n (slotOf h)) (h / 2)
        ∗ dutyTok ER (recvC (dstD n c) n (slotOf (h + 1))) (h / 2) false ∗ reached ER (recvC (dstD n c) n (slotOf (h + 1))) (h / 2)
        ∗ ((cred (tallyAt (sendC c n (slotOf h)) h N) ∗ ∃ W, owes (c : Thread nD τ) O W) -∗ Q ⟨⟩))
      ⊢ WP c (send n (slotOf h) (slotOf (h + 1)) c) Q := by
  unfold send slotIs slotAny
  simp only [Prog.lift]
  iintro ⟨#HR, ⟨%fs, %hfs, Hs⟩, ⟨%fd, Hd⟩, Hrc, ⟨%W, HO⟩, HtS, HrS, HtR, HrR, Hk⟩
  iapply (Rounds.wp_send_pointsTo_with 𝒱₀ ER (ringRd X Wt) (c : Thread nD τ) none (c' := (dstD n c : Thread nD τ))
      (src := slotM n (slotOf h)) (dst := slotM n (slotOf (h + 1))) (fs := fs) (fd := fd) (q := fullShare)
      (F := reached ER (credC c n) h)
      (κ₁ := K (c, sendK n (slotOf h))) (κ₂ := K (dstD n c, recvK n (slotOf (h + 1)))) (r₁ := h / 2) (r₂ := h / 2) (d₁ := false) (d₂ := false)
      (by rw [duties_send X Wt c n h hh]; exact Finset.mem_singleton_self _)
      (by rw [duties_recv X Wt (dstD n c) n h hh]; exact Finset.mem_singleton_self _)
      h h N rfl (amount_send X Wt c n false _ _) (amount_recv X Wt (dstD n c) n false _ _) O rfl (W := W)
      (by
        rw [payload_send X Wt c n false, slotM_set]; unfold slotAny slotPts
        iintro H; iexists fs; iexact H)
      (by
        rw [payload_recv X Wt (dstD n c) n h false, slotM_set]; unfold recvPay slotIs slotPts; rw [src_dst]
        iintro ⟨H, Hr⟩
        isplitl [H]
        · iexists _
          isplitr
          · ipureintro; exact (slotRead_sent n (slotOf h) (slotOf (h + 1)) fd fs).trans hfs
          iexact H
        iexact Hr)) $$ [Hs Hd Hrc HO HtS HrS HtR HrR]
  · isplitr; · iapply (inv_at X Wt K c (sendK n (slotOf h))); iexact HR
    isplitr; · iapply (inv_at X Wt K (dstD n c) (recvK n (slotOf (h + 1)))); iexact HR
    isplitl [Hs]; · rw [slotM_set]; unfold slotPts; iexact Hs
    isplitl [Hd Hrc]
    · isplitl [Hd]; · rw [slotM_set]; unfold slotPts; iexact Hd
      iexact Hrc
    isplitl [HO]; · iexact HO
    isplitl [HtS]; · iexact HtS
    isplitl [HrS]; · iexact HrS
    isplitl [HtR]; · iexact HtR
    iexact HrR
  iintro ⟨Hc, HO⟩
  rw [wp_ret]; imodintro
  iapply Hk
  isplitl [Hc]; · iexact Hc
  iexists W; iexact HO

end Cert.KernelIdeal.Rs
-- ==== Proof.Ring.lean ====
/-
One ring's turns on one device: what the ring holds after each number of turns, and each turn run from the one
state to the next.
-/
module

public import proofs.«01_k».proof.Proof.Hop
public import Idealize.SL.BI.BigOpNat

@[expose] public section

noncomputable section

namespace Cert.KernelIdeal.Rs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → FVec F S4096x512 .bf16) (Wt : Dev nD → FVec F S512x8192 .bf16)
variable (K : Dev nD × Cell → ℕ)

/-! ## What a ring holds -/

/-- Where the ring's five cells stand after `e` turns. -/
def pos (c : Dev nD) (n : Fin 16) (e : ℕ) : sProp 𝕄 :=
  iprop(atPos ER (recvC c n (slotOf e)) ((e - 1) / 2) ∅ 0 ∗ atPos ER (recvC c n (slotOf (e + 1))) (e / 2) ∅ 0
    ∗ atPos ER (sendC c n (slotOf (e + 1))) ((e - 1) / 2) ∅ 0 ∗ atPos ER (sendC c n (slotOf e)) (e / 2) ∅ 0
    ∗ atPos ER (credC c n) (min (e - 1) 6) ∅ 0)
/-- The rounds known to be reached where the next arrival and the next departure are counted. -/
def marks (c : Dev nD) (n : Fin 16) (e : ℕ) : sProp 𝕄 :=
  iprop(reached ER (recvC c n (slotOf (e + 1))) (e / 2) ∗ reached ER (sendC c n (slotOf e)) (e / 2))

/-- The tokens of the transfers from hop `e` on. -/
def toSend (c : Dev nD) (n : Fin 16) (e : ℕ) : sProp 𝕄 :=
  bigSep (Finset.Ico e 7) fun j => iprop(dutyTok ER (sendC c n (slotOf j)) (j / 2) false ∗ dutyTok ER (recvC (dstD n c) n (slotOf (j + 1))) (j / 2) false)
/-- The units of the arrivals from hop `e` on. -/
def toRecv (c : Dev nD) (n : Fin 16) (e : ℕ) : sProp 𝕄 :=
  bigSep (Finset.Ico e 7) fun j => cred (tallyAt (recvC c n (slotOf (j + 1))) j N)
/-- The tokens of the credits given and the units of the credits awaited, from hop `e` on. -/
def toCred (c : Dev nD) (n : Fin 16) (e : ℕ) : sProp 𝕄 :=
  bigSep (Finset.Ico e 6) fun j => iprop(dutyTok ER (credC (srcD n c) n) j false ∗ cred (tallyAt (credC c n) j 1))

/-- Before the first turn the two slots the first transfer uses; after the last both own slots; between, the unit of
the departure under way. -/
def held (c : Dev nD) (n : Fin 16) (e : ℕ) : sProp 𝕄 :=
  if e = 0 then iprop(slotAny c n 0 ∗ slotAny (dstD n c) n 1)
  else if e = 8 then iprop(slotAny c n 0 ∗ slotAny c n 1)
  else cred (tallyAt (sendC c n (slotOf (e - 1))) (e - 1) N)

/-- Ring `n` on device `c` after `e` turns. -/
def St (c : Dev nD) (n : Fin 16) (e : ℕ) : sProp 𝕄 :=
  iprop(pos c n e ∗ marks c n e ∗ toSend c n e ∗ toRecv c n (e - 1) ∗ toCred c n (e - 1) ∗ held c n e)

section Open
variable (c : Dev nD) (n : Fin 16) (h : ℕ)

omit [FloatOps F] in
theorem pos_before (hh : h < 7) : (pos c n (h + 1) : sProp 𝕄)
    = iprop(atPos ER (recvC c n (slotOf (h + 1))) (h / 2) ∅ 0 ∗ atPos ER (recvC c n (slotOf h)) ((h + 1) / 2) ∅ 0
      ∗ atPos ER (sendC c n (slotOf h)) (h / 2) ∅ 0 ∗ atPos ER (sendC c n (slotOf (h + 1))) ((h + 1) / 2) ∅ 0
      ∗ atPos ER (credC c n) h ∅ 0) := by
  unfold pos
  rw [show slotOf (h + 1 + 1) = slotOf h from slot_step h, Nat.add_sub_cancel, min_eq_left (by omega)]
omit [FloatOps F] in
theorem pos_after : (pos c n (h + 2) : sProp 𝕄)
    = iprop(atPos ER (recvC c n (slotOf h)) ((h + 1) / 2) ∅ 0 ∗ atPos ER (recvC c n (slotOf (h + 1))) (h / 2 + 1) ∅ 0
      ∗ atPos ER (sendC c n (slotOf (h + 1))) ((h + 1) / 2) ∅ 0 ∗ atPos ER (sendC c n (slotOf h)) (h / 2 + 1) ∅ 0
      ∗ atPos ER (credC c n) (min (h + 1) 6) ∅ 0) := by
  unfold pos
  rw [show slotOf (h + 2 + 1) = slotOf (h + 1) from slot_step (h + 1), slot_step, show h + 2 - 1 = h + 1 by omega,
    show (h + 2) / 2 = h / 2 + 1 by omega]
omit [FloatOps F] in
theorem marks_before : (marks c n (h + 1) : sProp 𝕄)
    = iprop(reached ER (recvC c n (slotOf h)) ((h + 1) / 2) ∗ reached ER (sendC c n (slotOf (h + 1))) ((h + 1) / 2)) := by
  unfold marks; rw [show slotOf (h + 1 + 1) = slotOf h from slot_step h]
omit [FloatOps F] in
theorem marks_after : (marks c n (h + 2) : sProp 𝕄)
    = iprop(reached ER (recvC c n (slotOf (h + 1))) (h / 2 + 1) ∗ reached ER (sendC c n (slotOf h)) (h / 2 + 1)) := by
  unfold marks; rw [show slotOf (h + 2 + 1) = slotOf (h + 1) from slot_step (h + 1), slot_step, show (h + 2) / 2 = h / 2 + 1 by omega]
omit [FloatOps F] in
theorem held_under (hh : h < 7) : (held c n (h + 1) : sProp 𝕄) = cred (tallyAt (sendC c n (slotOf h)) h N) := by
  unfold held; rw [if_neg (by omega), if_neg (by omega), Nat.add_sub_cancel]
omit [FloatOps F] in
theorem held_zero : (held c n 0 : sProp 𝕄) = iprop(slotAny c n 0 ∗ slotAny (dstD n c) n 1) := by unfold held; rw [if_pos rfl]
omit [FloatOps F] in
theorem held_eight : (held c n 8 : sProp 𝕄) = iprop(slotAny c n 0 ∗ slotAny c n 1) := by unfold held; rw [if_neg (by decide), if_pos rfl]
omit [FloatOps F] in
theorem toSend_first (hh : h < 7) : (toSend c n h : sProp 𝕄)
    = iprop((dutyTok ER (sendC c n (slotOf h)) (h / 2) false ∗ dutyTok ER (recvC (dstD n c) n (slotOf (h + 1))) (h / 2) false) ∗ toSend c n (h + 1)) :=
  bigSep_Ico_succ_bot hh _
omit [FloatOps F] in
theorem toRecv_first (hh : h < 7) : (toRecv c n h : sProp 𝕄) = iprop(cred (tallyAt (recvC c n (slotOf (h + 1))) h N) ∗ toRecv c n (h + 1)) :=
  bigSep_Ico_succ_bot hh _
omit [FloatOps F] in
theorem toCred_first (hh : h < 6) : (toCred c n h : sProp 𝕄)
    = iprop((dutyTok ER (credC (srcD n c) n) h false ∗ cred (tallyAt (credC c n) h 1)) ∗ toCred c n (h + 1)) :=
  bigSep_Ico_succ_bot hh _

theorem ring_of (t : ℕ) (ht : t = 16 * h + n.val) : ringAt t = n := Fin.ext (by show t % 16 = n.val; have := n.isLt; omega)
theorem turn_of (t : ℕ) (ht : t = 16 * h + n.val) : turnAt t = h := by unfold turnAt; have := n.isLt; omega

end Open

/-! ## The operands and the result -/

def xPts (c : Dev nD) (f : FVec F S4096x512 .bf16) : sProp 𝕄 := ((c : Thread nD τ).loc cc0_stg0_0) ↦[Finset.univ]{fullShare} f
def wPts (c : Dev nD) (f : FVec F S512x8192 .bf16) : sProp 𝕄 := ((c : Thread nD τ).loc cc0_stg1_0) ↦[Finset.univ]{fullShare} f
def oPts (c : Dev nD) (f : FVec F S512x8192 .bf16) : sProp 𝕄 := ((c : Thread nD τ).loc cc0_stg2_0) ↦[Finset.univ]{fullShare} f

/-- The strip of the result ring `n` closes, read and written. -/
def oRead (n : Fin 16) (f : FVec F S512x8192 .bf16) : FVec F S512x512 .bf16 := (oM.access (colR n) : View sig .tc _ _ _).read (Elt F) f
def oWrite (n : Fin 16) (f : FVec F S512x8192 .bf16) (v : FVec F S512x512 .bf16) : FVec F S512x8192 .bf16 :=
  (oM.access (colR n) : View sig .tc _ _ _).write (Elt F) f v Finset.univ

/-! ## The turns -/

/-- A ring begun. -/
theorem wp_begin (c : Dev nD) (n : Fin 16) (t : ℕ) (ht : t = n.val) (Q : PUnit → sProp 𝕄) :
    iprop(recs X Wt K ∗ St c n 0 ∗ xPts c (X c) ∗ wPts c (Wt c) ∗ (∃ W, owes (c : Thread nD τ) (due c t) W)
        ∗ ((St c n 1 ∗ xPts c (X c) ∗ wPts c (Wt c) ∗ ∃ W, owes (c : Thread nD τ) (due c (t + 1)) W) -∗ Q ⟨⟩))
      ⊢ WP c (begin n c) Q := by
  have hn : ringAt t = n := ring_of n 0 t (by omega)
  have hu : turnAt t = 0 := turn_of n 0 t (by omega)
  rw [due_begin c t (by have := n.isLt; omega), show payR c t = tallyAt (recvC (dstD n c) n (slotOf (0 + 1))) 0 N by unfold payR; rw [hn, hu]]
  unfold begin St
  simp only [Prog.lift, Prog.bind_op, Prog.bind_ret]
  rw [toSend_first c n 0 (by decide), held_zero, held_under c n 0 (by decide)]
  iintro ⟨#HR, ⟨Hpos, -, ⟨⟨HtS, HtR⟩, HtoS⟩, HtoR, HtoC, ⟨Hs, Hd⟩⟩, Hx, Hw, HO, Hk⟩
  unfold xPts wPts
  iapply (wp_load_rect 𝒱₀ (c : Thread nD τ) none Set.univ (m := xM) (r := rowsPR n c) (S := Finset.univ) (f := X c) (q := fullShare) (Finset.subset_univ _)) $$ Hx
  iintro Hx
  iapply (wp_load_rect 𝒱₀ (c : Thread nD τ) none Set.univ (m := wM) (r := colR n) (S := Finset.univ) (f := Wt c) (q := fullShare) (Finset.subset_univ _)) $$ Hw
  iintro Hw
  rw [wp_bind]
  iapply (wp_put c n 0 (part X Wt n 0 c))
  isplitl [Hs]; · iexact Hs
  iintro Hs
  iapply (wp_send_on X Wt K c n 0 (by decide) (due c (t + 1)))
  isplitr; · iexact HR
  isplitl [Hs]; · iexact Hs
  isplitl [Hd]; · iexact Hd
  isplitr; · iapply (zero_at X Wt K c (credK n)); iexact HR
  isplitl [HO]; · iexact HO
  isplitl [HtS]; · iexact HtS
  isplitr; · iapply (zero_at X Wt K c (sendK n (slotOf 0))); iexact HR
  isplitl [HtR]; · iexact HtR
  isplitr; · iapply (zero_at X Wt K (dstD n c) (recvK n (slotOf (0 + 1)))); iexact HR
  iintro ⟨Hc, HO⟩
  iapply Hk
  isplitl [Hpos HtoS HtoR HtoC Hc]
  · isplitl [Hpos]
    · unfold pos; rw [show slotOf (1 + 1) = slotOf 0 from rfl]
      icases Hpos with ⟨H1, H2, H3, H4, H5⟩
      isplitl [H2]; · iexact H2
      isplitl [H1]; · iexact H1
      isplitl [H4]; · iexact H4
      isplitl [H3]; · iexact H3
      iexact H5
    isplitr
    · unfold marks
      isplitr
      · iapply (zero_at X Wt K c (recvK n (slotOf 0))); iexact HR
      iapply (zero_at X Wt K c (sendK n (slotOf 1))); iexact HR
    isplitl [HtoS]; · iexact HtoS
    isplitl [HtoR]; · iexact HtoR
    isplitl [HtoC]; · iexact HtoC
    iexact Hc
  isplitl [Hx]; · iexact Hx
  isplitl [Hw]; · iexact Hw
  iexact HO

/-- A passing hop. -/
theorem wp_pass (c : Dev nD) (n : Fin 16) (h : ℕ) (hh : h < 6) (t : ℕ) (ht : t = 16 * (h + 1) + n.val) (Q : PUnit → sProp 𝕄) :
    iprop(recs X Wt K ∗ levAts Lset lv ∗ St c n (h + 1) ∗ xPts c (X c) ∗ wPts c (Wt c) ∗ (∃ W, owes (c : Thread nD τ) (due c t) W)
        ∗ ((St c n (h + 2) ∗ xPts c (X c) ∗ wPts c (Wt c) ∗ ∃ W, owes (c : Thread nD τ) (due c (t + 1)) W) -∗ Q ⟨⟩))
      ⊢ WP c (pass n (hop h) (slotOf h) (slotOf (h + 1)) c) Q := by
  have hnl := n.isLt
  have hn : ringAt t = n := ring_of n (h + 1) t (by omega)
  have hu : turnAt t = h + 1 := turn_of n (h + 1) t (by omega)
  have hn' : ringAt (t - 16) = n := ring_of n h (t - 16) (by omega)
  have hu' : turnAt (t - 16) = h := turn_of n h (t - 16) (by omega)
  have hR : payR c t = tallyAt (recvC (dstD n c) n (slotOf (h + 1 + 1))) (h + 1) N := by unfold payR; rw [hn, hu]
  have hC : payC c (t - 16) = tallyAt (credC (srcD n c) n) h 1 := by unfold payC; rw [hn', hu']
  have hdue := due_pass c t (by omega) (by omega)
  have hlev : ∀ g j, 0 < due c t g j → j ∈ Lset g ∧ 2 + 2 * (16 * h + n.val) < lv g j := fun g j hg => by
    have := due_level hg
    exact ⟨this.1, by have := this.2.2 (by omega); omega⟩
  have hlev' : ∀ g j, 0 < (due c (t + 1) + payR c t) g j → j ∈ Lset g ∧ 3 + 2 * (16 * h + n.val) < lv g j := fun g j hg => by
    rw [Pi.add_apply, Finsupp.add_apply] at hg
    rcases Nat.eq_zero_or_pos (payR c t g j) with h0 | h0
    · have := due_level (show 0 < due c (t + 1) g j by omega)
      exact ⟨this.1, by have := this.2.2 (by omega); omega⟩
    · rw [hR, tallyAt_apply] at h0
      by_cases hc : g = recvC (dstD n c) n (slotOf (h + 1 + 1)) ∧ j = h + 1
      · rw [hc.1, hc.2, Lset_tc, lv_recv, Finset.mem_range]; omega
      · rw [if_neg hc] at h0; exact absurd h0 (lt_irrefl 0)
  unfold pass St
  simp only [semSignalWord, semWaitWord, Prog.lift, Prog.bind_op, Prog.bind_ret]
  rw [WP_bind, pos_before c n h (by omega), pos_after, marks_before, marks_after, toSend_first c n (h + 1) (by omega), held_under c n h (by omega),
    held_under c n (h + 1) (by omega), Nat.add_sub_cancel, show h + 2 - 1 = h + 1 by omega, toRecv_first c n h (by omega), toCred_first c n h hh,
    min_eq_left (show h + 1 ≤ 6 by omega)]
  iintro ⟨#HR, #Hlev, ⟨⟨Ha1, Ha2, Ha3, Ha4, Ha5⟩, ⟨Hm1, Hm2⟩, ⟨⟨HtS, HtR⟩, HtoS⟩, ⟨HcR, HtoR⟩, ⟨⟨HtC, HcC⟩, HtoC⟩, HcS⟩, Hx, Hw, HO, Hk⟩
  iapply (wp_waits X Wt K c n h (by omega) (due c t) hlev)
  isplitr; · iexact HR
  isplitr; · iexact Hlev
  isplitl [HcR]; · iexact HcR
  isplitl [HcS]; · iexact HcS
  isplitl [Ha1]; · iexact Ha1
  isplitl [Ha3]; · iexact Ha3
  isplitl [HO]; · iexact HO
  unfold recvPay slotIs
  iintro ⟨⟨%W, HO⟩, Ha1, Hm3, Ha3, Hm4, ⟨Hs, Hrc⟩, Hfree⟩
  iapply (Rounds.wp_signal 𝒱₀ ER (ringRd X Wt) (c : Thread nD τ) none (dst := (srcD n c : Thread nD τ)) (κ := K (srcD n c, credK n)) (r := h)
      (d := false) (by rw [duties_cred X Wt (srcD n c) n h hh]; exact Finset.mem_singleton_self _) ((amount_cred X Wt (srcD n c) n false h).trans (by decide)) h
      (due c (t + 1) + payR c t) (hdue.trans (by rw [hC]; rfl)))
    $$ [HO HtC Hfree Hm1 Hrc]
  · isplitr; · iapply (inv_at X Wt K (srcD n c) (credK n)); iexact HR
    isplitl [HO]; · iexact HO
    isplitl [HtC]; · iexact HtC
    isplitl [Hfree Hm1]
    · rw [payload_cred]; unfold credPay; rw [dst_src]
      isplitl [Hfree]; · iexact Hfree
      iexact Hm1
    iexact Hrc
  iintro HO
  icases Hs with ⟨%fs, %hfs, Hs⟩
  unfold slotPts
  iapply (wp_load_rect 𝒱₀ (c : Thread nD τ) none Set.univ (m := cM) (r := slotR n (slotOf (h + 1))) (S := (slotV n (slotOf (h + 1))).set) (f := fs) (q := fullShare) (Finset.Subset.refl _)) $$ Hs
  iintro Hs
  unfold xPts wPts
  iapply (wp_load_rect 𝒱₀ (c : Thread nD τ) none Set.univ (m := xM) (r := rowsHR n (hop h) c) (S := Finset.univ) (f := X c) (q := fullShare) (Finset.subset_univ _)) $$ Hx
  iintro Hx
  iapply (wp_load_rect 𝒱₀ (c : Thread nD τ) none Set.univ (m := wM) (r := colR n) (S := Finset.univ) (f := Wt c) (q := fullShare) (Finset.subset_univ _)) $$ Hw
  iintro Hw
  rw [wp_bind]
  iapply (wp_put c n (slotOf (h + 1)) (packV (addV (slotRead n (slotOf (h + 1)) fs) (xRead (rowsHR n (hop h) c) (X c)) (wRead n (Wt c)))))
  isplitl [Hs]; · unfold slotAny slotPts; iexists fs; iexact Hs
  rw [show packV (addV (slotRead n (slotOf (h + 1)) fs) (xRead (rowsHR n (hop h) c) (X c)) (wRead n (Wt c))) = part X Wt n (h + 1) c by rw [hfs]; rfl]
  iintro Hs
  iapply (Rounds.wp_wait_rest_token 𝒱₀ ER (ringRd X Wt) (c : Thread nD τ) none (κ := K (c, credK n))
      (wpE_semWait_eq 𝒱₀ (c : Thread nD τ) none Set.univ) (Set.mem_univ _) h (O := due c (t + 1) + payR c t) (W := W) (R := h) (m := 0) (T := ∅)
      (by rw [expect_cred X Wt c n h hh]; decide)) $$ [HcC HO Ha5]
  · isplitr; · iapply (inv_at X Wt K c (credK n)); iexact HR
    isplitl [HcC]; · iexact HcC
    isplitl [HO]; · iexact HO
    isplitr; · iapply (mayWait_below c (.reg (credQ n)) h (3 + 2 * (16 * h + n.val)) (by omega) (le_of_eq (lv_cred c n h)) _ hlev'); iexact Hlev
    iexact Ha5
  iintro ⟨HO, Ha5, Hm5, Hpay⟩
  ihave Hpay := (Entails.of_eq (rest_cred X Wt c n h hh)) $$ Hpay
  unfold credPay
  icases Hpay with ⟨Hd, Hm6⟩
  rw [← show slotOf (h + 1 + 1) = slotOf h from slot_step h]
  iapply (wp_send_on X Wt K c n (h + 1) (by omega) (due c (t + 1)))
  isplitr; · iexact HR
  isplitl [Hs]; · iexact Hs
  isplitl [Hd]; · iexact Hd
  isplitl [Hm5]; · iexact Hm5
  isplitl [HO]; · iexists _; rw [← hR]; iexact HO
  isplitl [HtS]; · iexact HtS
  isplitl [Hm2]; · iexact Hm2
  isplitl [HtR]; · iexact HtR
  isplitl [Hm6]; · iexact Hm6
  iintro ⟨Hc, HO⟩
  iapply Hk
  isplitl [Ha1 Ha2 Ha3 Ha4 Ha5 Hm3 Hm4 HtoS HtoR HtoC Hc]
  · isplitl [Ha1 Ha2 Ha3 Ha4 Ha5]
    · isplitl [Ha2]; · iexact Ha2
      isplitl [Ha1]; · iexact Ha1
      isplitl [Ha4]; · iexact Ha4
      isplitl [Ha3]; · iexact Ha3
      iexact Ha5
    isplitl [Hm3 Hm4]
    · isplitl [Hm3]; · iexact Hm3
      iexact Hm4
    isplitl [HtoS]; · iexact HtoS
    isplitl [HtoR]; · iexact HtoR
    isplitl [HtoC]; · iexact HtoC
    iexact Hc
  isplitl [Hx]; · iexact Hx
  isplitl [Hw]; · iexact Hw
  iexact HO

/-- A ring closed. -/
theorem wp_close (c : Dev nD) (n : Fin 16) (f : FVec F S512x8192 .bf16) (Q : PUnit → sProp 𝕄) :
    iprop(recs X Wt K ∗ levAts Lset lv ∗ St c n 7 ∗ xPts c (X c) ∗ wPts c (Wt c) ∗ oPts c f ∗ (∃ W, owes (c : Thread nD τ) 0 W)
        ∗ ((St c n 8 ∗ xPts c (X c) ∗ wPts c (Wt c) ∗ oPts c (oWrite n f (resV X Wt n c)) ∗ ∃ W, owes (c : Thread nD τ) 0 W) -∗ Q ⟨⟩))
      ⊢ WP c (close n c) Q := by
  unfold close St
  simp only [Prog.lift, Prog.bind_op, Prog.bind_ret]
  rw [WP_bind, pos_before c n 6 (by decide), pos_after c n 6, marks_after c n 6, held_under c n 6 (by decide), toRecv_first c n (7 - 1) (by decide), held_eight]
  iintro ⟨#HR, #Hlev, ⟨⟨Ha1, Ha2, Ha3, Ha4, Ha5⟩, -, HtoS, ⟨HcR, HtoR⟩, HtoC, HcS⟩, Hx, Hw, Ho, HO, Hk⟩
  iapply (wp_waits X Wt K c n 6 (by decide) 0 (fun g j h => absurd h (lt_irrefl 0)))
  isplitr; · iexact HR
  isplitr; · iexact Hlev
  isplitl [HcR]; · iexact HcR
  isplitl [HcS]; · iexact HcS
  isplitl [Ha1]; · iexact Ha1
  isplitl [Ha3]; · iexact Ha3
  isplitl [HO]; · iexact HO
  unfold recvPay slotIs
  iintro ⟨HO, Ha1, Hm3, Ha3, Hm4, ⟨Hs, Hrc⟩, Hfree⟩
  icases Hs with ⟨%fs, %hfs, Hs⟩
  unfold slotPts xPts wPts oPts
  iapply (wp_load_rect 𝒱₀ (c : Thread nD τ) none Set.univ (m := cM) (r := slotR n 1) (S := (slotV n (slotOf (6 + 1))).set) (f := fs) (q := fullShare) (Finset.Subset.refl _)) $$ Hs
  iintro Hs
  iapply (wp_load_rect 𝒱₀ (c : Thread nD τ) none Set.univ (m := xM) (r := rowsHR n 6 c) (S := Finset.univ) (f := X c) (q := fullShare) (Finset.subset_univ _)) $$ Hx
  iintro Hx
  iapply (wp_load_rect 𝒱₀ (c : Thread nD τ) none Set.univ (m := wM) (r := colR n) (S := Finset.univ) (f := Wt c) (q := fullShare) (Finset.subset_univ _)) $$ Hw
  iintro Hw
  iapply (wp_load_rect 𝒱₀ (c : Thread nD τ) none Set.univ (m := oM) (r := colR n) (S := Finset.univ) (f := f) (q := fullShare) (Finset.subset_univ _)) $$ Ho
  iintro Ho
  iapply (wp_store 𝒱₀ (c : Thread nD τ) none Set.univ (m := oM) (r := colR n) (Mk := Finset.univ) (S := Finset.univ) (f := f) (Finset.subset_univ _)) $$ Ho
  iintro Ho
  rw [wp_ret]; imodintro
  iapply Hk
  isplitl [Ha1 Ha2 Ha3 Ha4 Ha5 Hm3 Hm4 HtoS HtoR HtoC Hs Hfree]
  · isplitl [Ha1 Ha2 Ha3 Ha4 Ha5]
    · isplitl [Ha2]; · iexact Ha2
      isplitl [Ha1]; · iexact Ha1
      isplitl [Ha4]; · iexact Ha4
      isplitl [Ha3]; · iexact Ha3
      iexact Ha5
    isplitl [Hm3 Hm4]
    · isplitl [Hm3]; · iexact Hm3
      iexact Hm4
    isplitl [HtoS]; · iexact HtoS
    isplitl [HtoR]; · iexact HtoR
    isplitl [HtoC]; · iexact HtoC
    isplitl [Hfree]; · iexact Hfree
    unfold slotAny slotPts
    iexists fs; iexact Hs
  isplitl [Hx]; · iexact Hx
  isplitl [Hw]; · iexact Hw
  isplitl [Ho]
  · rw [show resV X Wt n c = closeV (addV (slotRead n (slotOf (6 + 1)) fs) (xRead (rowsHR n 6 c) (X c)) (wRead n (Wt c))) by rw [hfs]; rfl]
    iexact Ho
  iexact HO

end Cert.KernelIdeal.Rs
-- ==== Proof.Body.lean ====
/-
A core's whole run: the handshake, the 128 ring turns in the order the kernel takes them, and the cells closed.
-/
module

public import proofs.«01_k».proof.Proof.Ring
public import Idealize.ShloMosaic.Lib.ViewIndex

@[expose] public section

noncomputable section

namespace Cert.KernelIdeal.Rs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → FVec F S4096x512 .bf16) (Wt : Dev nD → FVec F S512x8192 .bf16)
variable (K : Dev nD × Cell → ℕ)

/-! ## The strips of the result -/

theorem cols_disjoint {n m : Fin 16} (h : n ≠ m) : Disjoint (colR n).set (colR m).set := by
  have hn := n.isLt
  have hm := m.isLt
  have hne : n.val ≠ m.val := fun e => h (Fin.ext e)
  exact Rect.unit_disjoint (s := S512x8192) (1 : Fin 2) (by
    show n.val % 2 * 4096 + n.val / 2 * 512 + 512 ≤ m.val % 2 * 4096 + m.val / 2 * 512
      ∨ m.val % 2 * 4096 + m.val / 2 * 512 + 512 ≤ n.val % 2 * 4096 + n.val / 2 * 512
    omega)

omit [FloatOps F] in
theorem oRead_own (n : Fin 16) (f : FVec F S512x8192 .bf16) (v : FVec F S512x512 .bf16) : oRead n (oWrite n f v) = v := by
  unfold oRead oWrite
  exact View.read_write_univ (v := (oM.access (colR n) : View sig .tc _ _ _)) (Val := Elt F) f v
omit [FloatOps F] in
theorem oRead_other {n m : Fin 16} (h : n ≠ m) (f : FVec F S512x8192 .bf16) (v : FVec F S512x512 .bf16) : oRead n (oWrite m f v) = oRead n f := by
  unfold oRead oWrite
  exact View.read_slice_write_slice_of_disjoint (v := (oM.view : View sig .tc _ _ _)) (Val := Elt F) (colR n) (colR m) f v Finset.univ
    (by rw [View.setOn_univ]; exact View.disjoint_slice (cols_disjoint h))

/-! ## One turn of the whole -/

/-- How many turns ring `n` has had before event `t`. -/
def turns (t : ℕ) (n : Fin 16) : ℕ := (t + 15 - n.val) / 16

/-- Before event `t`: every ring at its turn, the operands, the strips of the closed rings computed, the debts left. -/
def Inv (c : Dev nD) (t : ℕ) : sProp 𝕄 :=
  iprop((bigSep Finset.univ fun n => St c n (turns t n)) ∗ xPts c (X c) ∗ wPts c (Wt c)
    ∗ (∃ f, ⌜∀ n : Fin 16, 112 + n.val < t → oRead n f = resV X Wt n c⌝ ∗ oPts c f)
    ∗ ∃ W, owes (c : Thread nD τ) (due c t) W)

/-- The other rings are as they were. -/
theorem rings_apart (c : Dev nD) (n : Fin 16) (e t : ℕ) (ht : t = 16 * e + n.val) : ∃ R : sProp 𝕄,
    (bigSep Finset.univ fun m => (St c m (turns t m) : sProp 𝕄)) = iprop(St c n e ∗ R)
      ∧ (bigSep Finset.univ fun m => (St c m (turns (t + 1) m) : sProp 𝕄)) = iprop(St c n (e + 1) ∗ R) := by
  have hn := n.isLt
  refine ⟨bigSep (Finset.univ.erase n) fun m => St c m (turns t m), ?_, ?_⟩
  · rw [bigSep_univ_at _ n, show turns t n = e by unfold turns; omega]
  · rw [bigSep_univ_at _ n, show turns (t + 1) n = e + 1 by unfold turns; omega]
    refine congrArg (fun R : sProp 𝕄 => iprop(St c n (e + 1) ∗ R)) (bigSep_congr fun m hm => ?_)
    have hne : m.val ≠ n.val := fun h => (Finset.mem_erase.mp hm).1 (Fin.ext h)
    have hm' := m.isLt
    rw [show turns (t + 1) m = turns t m by unfold turns; omega]

theorem event_pass (n : Fin 16) (c : Dev nD) (h : ℕ) (hh : h < 6) : event (F := F) n c (h + 1) = pass n (hop h) (slotOf h) (slotOf (h + 1)) c := by
  rcases h with _ | _ | _ | _ | _ | _ | h <;> first | rfl | omega

theorem wp_event (c : Dev nD) (n : Fin 16) (e : ℕ) (he : e < 8) (t : ℕ) (ht : t = 16 * e + n.val) (Q : PUnit → sProp 𝕄) :
    iprop(recs X Wt K ∗ levAts Lset lv ∗ Inv X Wt c t ∗ (Inv X Wt c (t + 1) -∗ Q ⟨⟩)) ⊢ WP c (event n c e) Q := by
  have hn := n.isLt
  obtain ⟨R, h0, h1⟩ := rings_apart (F := F) c n e t ht
  unfold Inv
  rw [h0, h1]
  rcases Nat.eq_zero_or_pos e with rfl | hpos
  · iintro ⟨#HR, #Hlev, ⟨⟨Hst, Hrest⟩, Hx, Hw, ⟨%f, %hf, Ho⟩, HO⟩, Hk⟩
    iapply (wp_begin X Wt K c n t (by omega) Q)
    isplitr; · iexact HR
    isplitl [Hst]; · iexact Hst
    isplitl [Hx]; · iexact Hx
    isplitl [Hw]; · iexact Hw
    isplitl [HO]; · iexact HO
    iintro ⟨Hst, Hx, Hw, HO⟩
    iapply Hk
    isplitl [Hst Hrest]
    · isplitl [Hst]; · iexact Hst
      iexact Hrest
    isplitl [Hx]; · iexact Hx
    isplitl [Hw]; · iexact Hw
    isplitl [Ho]
    · iexists f
      isplitr; · ipureintro; exact fun m hm => hf m (by omega)
      iexact Ho
    iexact HO
  obtain ⟨h, rfl⟩ : ∃ h, e = h + 1 := ⟨e - 1, by omega⟩
  rcases Nat.lt_or_ge h 6 with hh | hh
  · rw [event_pass n c h hh]
    iintro ⟨#HR, #Hlev, ⟨⟨Hst, Hrest⟩, Hx, Hw, ⟨%f, %hf, Ho⟩, HO⟩, Hk⟩
    iapply (wp_pass X Wt K c n h hh t ht Q)
    isplitr; · iexact HR
    isplitr; · iexact Hlev
    isplitl [Hst]; · iexact Hst
    isplitl [Hx]; · iexact Hx
    isplitl [Hw]; · iexact Hw
    isplitl [HO]; · iexact HO
    iintro ⟨Hst, Hx, Hw, HO⟩
    iapply Hk
    isplitl [Hst Hrest]
    · isplitl [Hst]; · iexact Hst
      iexact Hrest
    isplitl [Hx]; · iexact Hx
    isplitl [Hw]; · iexact Hw
    isplitl [Ho]
    · iexists f
      isplitr; · ipureintro; exact fun m hm => hf m (by omega)
      iexact Ho
    iexact HO
  · obtain rfl : h = 6 := by omega
    rw [due_close c t (by omega), due_close c (t + 1) (by omega)]
    iintro ⟨#HR, #Hlev, ⟨⟨Hst, Hrest⟩, Hx, Hw, ⟨%f, %hf, Ho⟩, HO⟩, Hk⟩
    iapply (wp_close X Wt K c n f Q)
    isplitr; · iexact HR
    isplitr; · iexact Hlev
    isplitl [Hst]; · iexact Hst
    isplitl [Hx]; · iexact Hx
    isplitl [Hw]; · iexact Hw
    isplitl [Ho]; · iexact Ho
    isplitl [HO]; · iexact HO
    iintro ⟨Hst, Hx, Hw, Ho, HO⟩
    iapply Hk
    isplitl [Hst Hrest]
    · isplitl [Hst]; · iexact Hst
      iexact Hrest
    isplitl [Hx]; · iexact Hx
    isplitl [Hw]; · iexact Hw
    isplitl [Ho]
    · iexists _
      isplitr
      · ipureintro
        intro m hm
        by_cases hmn : m = n
        · rw [hmn]; exact oRead_own n f _
        · have hne : m.val ≠ n.val := fun h => hmn (Fin.ext h)
          rw [oRead_other hmn]; exact hf m (by omega)
      iexact Ho
    iexact HO

/-- The turns from event `t` on. -/
theorem wp_turns (c : Dev nD) (Q : PUnit → sProp 𝕄) (k : ℕ) : ∀ t : ℕ, t + k = 128 →
    (iprop(recs X Wt K ∗ levAts Lset lv ∗ Inv X Wt c t ∗ (Inv X Wt c 128 -∗ |={Set.univ}=> Q ⟨⟩))
      ⊢ WP c (Pipeline.chain ((List.range' t k).map fun u => event (ringAt u) c (turnAt u))) Q) := by
  induction k with
  | zero =>
    intro t ht
    obtain rfl : t = 128 := by omega
    rw [show WP c (Pipeline.chain ((List.range' 128 0).map fun u => event (F := F) (ringAt u) c (turnAt u))) Q = iprop(|={Set.univ}=> Q ⟨⟩) from wp_ret _ _ _ _ _]
    iintro ⟨-, -, Hi, Hk⟩
    iapply Hk; iexact Hi
  | succ k ih =>
    intro t ht
    rw [List.range'_succ, List.map_cons, Pipeline.chain_cons, WP_bind]
    iintro ⟨#HR, #Hlev, Hi, Hk⟩
    iapply (wp_event X Wt K c (ringAt t) (turnAt t) (by unfold turnAt; omega) t (event_no t).symm)
    isplitr; · iexact HR
    isplitr; · iexact Hlev
    isplitl [Hi]; · iexact Hi
    iintro Hi
    iapply (ih (t + 1) (by omega))
    isplitr; · iexact HR
    isplitr; · iexact Hlev
    isplitl [Hi]; · iexact Hi
    iexact Hk

/-! ## The handshake -/

/-- Before the handshake ring `n` holds its cells' positions, its tokens and its units. -/
def Fresh (c : Dev nD) (n : Fin 16) : sProp 𝕄 := iprop(pos c n 0 ∗ toSend c n 0 ∗ toRecv c n 0 ∗ toCred c n 0)

omit [FloatOps F] in
theorem dirs_join (Φ : Fin 16 → sProp 𝕄) : bigSep Finset.univ Φ = iprop(bigSep (dirOf true) Φ ∗ bigSep (dirOf false) Φ) := by
  rw [bigSep_filter_split Finset.univ (fun n : Fin 16 => decide (n.val % 2 = 0) = true),
    show (Finset.univ.filter fun n : Fin 16 => ¬ decide (n.val % 2 = 0) = true) = dirOf false from
      Finset.filter_congr fun n _ => by rw [Bool.not_eq_true]]
  rfl

/-- A neighbour's barrier is handed this device's landing slots of the rings coming from there. -/
theorem barPay_left (c : Dev nD) : (barPay (leftD c) true : sProp 𝕄) = bigSep (dirOf true) fun n => slotAny c n 1 := by
  unfold barPay
  refine bigSep_congr fun n hn => ?_
  have h : n.val % 2 = 0 := by have := (Finset.mem_filter.mp hn).2; simpa using this
  unfold dstD; rw [if_pos h, right_left]
theorem barPay_right (c : Dev nD) : (barPay (rightD c) false : sProp 𝕄) = bigSep (dirOf false) fun n => slotAny c n 1 := by
  unfold barPay
  refine bigSep_congr fun n hn => ?_
  have h : ¬ n.val % 2 = 0 := by have := (Finset.mem_filter.mp hn).2; simpa using this
  unfold dstD; rw [if_neg h, left_right]

theorem wp_handshake (c : Dev nD) (Q : PUnit → sProp 𝕄) :
    iprop(recs X Wt K ∗ levAts Lset lv ∗ atPos ER (barC c) 0 ∅ 0 ∗ cred (tallyAt (barC c) 0 2)
        ∗ dutyTok ER (barC (leftD c)) 0 true ∗ dutyTok ER (barC (rightD c)) 0 false
        ∗ (bigSep Finset.univ fun n => slotAny c n 1) ∗ (∃ W, owes (c : Thread nD τ) (O₀ c) W)
        ∗ ((atPos ER (barC c) 1 ∅ 0 ∗ (bigSep Finset.univ fun n => slotAny (dstD n c) n 1) ∗ ∃ W, owes (c : Thread nD τ) (due c 0) W) -∗ Q ⟨⟩))
      ⊢ WP c (handshake c) Q := by
  unfold handshake
  simp only [semSignalWord, semWaitWord, Prog.lift, Prog.bind_op, Prog.bind_ret]
  rw [dirs_join fun n => slotAny c n 1]
  iintro ⟨#HR, #Hlev, Hat, Hc, HtL, HtR, ⟨He, Hod⟩, ⟨%W, HO⟩, Hk⟩
  iapply (Rounds.wp_signal 𝒱₀ ER (ringRd X Wt) (c : Thread nD τ) none (dst := (leftD c : Thread nD τ)) (κ := K (leftD c, none)) (r := 0)
      (d := true) (by rw [duties_bar]; exact Finset.mem_univ _) ((amount_bar X Wt (leftD c) true 0).trans (by decide)) 0
      (O₁ c) rfl) $$ [HO HtL He]
  · isplitr; · iapply (inv_at X Wt K (leftD c) none); iexact HR
    isplitl [HO]; · iexact HO
    isplitl [HtL]; · iexact HtL
    isplitl [He]
    · rw [payload_bar, barPay_left]; iexact He
    iapply (zero_at X Wt K (leftD c) none); iexact HR
  iintro HO
  iapply (Rounds.wp_signal 𝒱₀ ER (ringRd X Wt) (c : Thread nD τ) none (dst := (rightD c : Thread nD τ)) (κ := K (rightD c, none)) (r := 0)
      (d := false) (by rw [duties_bar]; exact Finset.mem_univ _) ((amount_bar X Wt (rightD c) false 0).trans (by decide)) 0
      (due c 0) rfl) $$ [HO HtR Hod]
  · isplitr; · iapply (inv_at X Wt K (rightD c) none); iexact HR
    isplitl [HO]; · iexact HO
    isplitl [HtR]; · iexact HtR
    isplitl [Hod]
    · rw [payload_bar, barPay_right]; iexact Hod
    iapply (zero_at X Wt K (rightD c) none); iexact HR
  iintro HO
  iapply (Rounds.wp_wait_rest_token 𝒱₀ ER (ringRd X Wt) (c : Thread nD τ) none (κ := K (c, none))
      (wpE_semWait_eq 𝒱₀ (c : Thread nD τ) none Set.univ) (Set.mem_univ _) 0 (O := due c 0) (W := W) (R := 0) (m := 0) (T := ∅)
      (by rw [expect_bar]; decide)) $$ [Hc HO Hat]
  · isplitr; · iapply (inv_at X Wt K c none); iexact HR
    isplitl [Hc]; · iexact Hc
    isplitl [HO]; · iexact HO
    isplitr
    · iapply (mayWait_below c (.reg barQ) 0 1 (by decide) (le_of_eq (lv_bar c 0)) _ fun g j hg => ⟨(due_level hg).1, (due_level hg).2.1⟩); iexact Hlev
    iexact Hat
  iintro ⟨HO, Hat, -, Hpay⟩
  ihave Hpay := (Entails.of_eq (rest_bar X Wt c)) $$ Hpay
  rw [wp_ret]; imodintro
  iapply Hk
  isplitl [Hat]; · iexact Hat
  isplitl [Hpay]; · iexact Hpay
  iexists _; iexact HO

/-! ## The whole -/

theorem wp_whole (c : Dev nD) (Q : PUnit → sProp 𝕄) :
    iprop(recs X Wt K ∗ levAts Lset lv ∗ atPos ER (barC c) 0 ∅ 0 ∗ cred (tallyAt (barC c) 0 2)
        ∗ dutyTok ER (barC (leftD c)) 0 true ∗ dutyTok ER (barC (rightD c)) 0 false
        ∗ (bigSep Finset.univ fun n => Fresh c n)
        ∗ (bigSep Finset.univ fun n => slotAny c n 0) ∗ (bigSep Finset.univ fun n => slotAny c n 1)
        ∗ xPts c (X c) ∗ wPts c (Wt c) ∗ (∃ f, oPts c f) ∗ (∃ W, owes (c : Thread nD τ) (O₀ c) W)
        ∗ ((atPos ER (barC c) 1 ∅ 0 ∗ Inv X Wt c 128) -∗ |={Set.univ}=> Q ⟨⟩))
      ⊢ WP c (whole c) Q := by
  unfold whole
  rw [Pipeline.chain_cons, WP_bind, List.range_eq_range']
  iintro ⟨#HR, #Hlev, Hat, Hc, HtL, HtR, Hf, Hs0, Hs1, Hx, Hw, ⟨%f, Ho⟩, HO, Hk⟩
  iapply (wp_handshake X Wt K c)
  isplitr; · iexact HR
  isplitr; · iexact Hlev
  isplitl [Hat]; · iexact Hat
  isplitl [Hc]; · iexact Hc
  isplitl [HtL]; · iexact HtL
  isplitl [HtR]; · iexact HtR
  isplitl [Hs1]; · iexact Hs1
  isplitl [HO]; · iexact HO
  iintro ⟨Hat, Hd, HO⟩
  iapply (wp_turns X Wt K c Q 128 0 (by decide))
  isplitr; · iexact HR
  isplitr; · iexact Hlev
  isplitl [Hf Hs0 Hd Hx Hw Ho HO]
  · unfold Inv
    isplitl [Hf Hs0 Hd]
    · iapply (bigSep_with_persistent (R := recs X Wt K) (S := Finset.univ)
        (Φ := fun n => iprop(Fresh c n ∗ slotAny c n 0 ∗ slotAny (dstD n c) n 1)) (Ψ := fun n => St c n (turns 0 n)) fun n _ => ?_)
      rotate_left
      · isplitr; · iexact HR
        rw [bigSep_sep', bigSep_sep']
        isplitl [Hf]; · iexact Hf
        isplitl [Hs0]; · iexact Hs0
        iexact Hd
      rw [show turns 0 n = 0 by unfold turns; omega]
      unfold Fresh St
      rw [held_zero]
      iintro ⟨#HR, ⟨Hp, HtS, HtV, HtC⟩, Hs, Hd⟩
      isplitl [Hp]; · iexact Hp
      isplitr
      · unfold marks
        isplitr
        · iapply (zero_at X Wt K c (recvK n (slotOf 1))); iexact HR
        iapply (zero_at X Wt K c (sendK n (slotOf 0))); iexact HR
      isplitl [HtS]; · iexact HtS
      isplitl [HtV]; · iexact HtV
      isplitl [HtC]; · iexact HtC
      isplitl [Hs]; · iexact Hs
      iexact Hd
    isplitl [Hx]; · iexact Hx
    isplitl [Hw]; · iexact Hw
    isplitl [Ho]
    · iexists f
      isplitr; · ipureintro; exact fun n hn => absurd hn (Nat.not_lt_zero _)
      iexact Ho
    iexact HO
  iintro Hi
  iapply Hk
  isplitl [Hat]; · iexact Hat
  iexact Hi

/-! ## The cells closed -/

omit [FloatOps F] in
theorem own_split (Φ : Own → sProp 𝕄) : bigSep Finset.univ Φ
    = bigSep Finset.univ fun n : Fin 16 => iprop((Φ (.inl (n, 0)) ∗ Φ (.inl (n, 1))) ∗ (Φ (.inr (.inl (n, 0))) ∗ Φ (.inr (.inl (n, 1)))) ∗ Φ (.inr (.inr n))) := by
  rw [bigSep_univ_sum, bigSep_univ_sum, bigSep_univ_prod, bigSep_univ_prod]
  simp only [bigSep_univ_two, bigSep_sep']
  rfl

/-- A ring's five cells closed, its two slots kept. -/
theorem close_ring (c : Dev nD) (n : Fin 16) : iprop(recs X Wt K ∗ St c n 8)
    ⊢ |={Set.univ}=> iprop(((semVal (sendC c n 0) 0 ∗ semVal (sendC c n 1) 0) ∗ (semVal (recvC c n 0) 0 ∗ semVal (recvC c n 1) 0) ∗ semVal (credC c n) 0)
        ∗ (slotAny c n 0 ∗ slotAny c n 1) : sProp 𝕄) := by
  unfold St
  rw [held_eight]
  unfold pos
  iintro ⟨#HR, ⟨H1, H2, H3, H4, H5⟩, -, -, -, -, Hs⟩
  imod (Rounds.cell_close ER (ringRd X Wt) (Set.mem_univ (K (c, recvK n 0))) (fun h => h) (R := 3) (duties_later X Wt c (recvK n 0))) $$ [H1] with Z1
  · isplitr; · iapply (inv_at X Wt K c (recvK n 0)); iexact HR
    iexact H1
  imod (Rounds.cell_close ER (ringRd X Wt) (Set.mem_univ (K (c, recvK n 1))) (fun h => h) (R := 4) (duties_later X Wt c (recvK n 1))) $$ [H2] with Z2
  · isplitr; · iapply (inv_at X Wt K c (recvK n 1)); iexact HR
    iexact H2
  imod (Rounds.cell_close ER (ringRd X Wt) (Set.mem_univ (K (c, sendK n 1))) (fun h => h) (R := 3) (duties_later X Wt c (sendK n 1))) $$ [H3] with Z3
  · isplitr; · iapply (inv_at X Wt K c (sendK n 1)); iexact HR
    iexact H3
  imod (Rounds.cell_close ER (ringRd X Wt) (Set.mem_univ (K (c, sendK n 0))) (fun h => h) (R := 4) (duties_later X Wt c (sendK n 0))) $$ [H4] with Z4
  · isplitr; · iapply (inv_at X Wt K c (sendK n 0)); iexact HR
    iexact H4
  imod (Rounds.cell_close ER (ringRd X Wt) (Set.mem_univ (K (c, credK n))) (fun h => h) (R := 6) (duties_later X Wt c (credK n))) $$ [H5] with Z5
  · isplitr; · iapply (inv_at X Wt K c (credK n)); iexact HR
    iexact H5
  imodintro
  isplitr [Hs]
  · isplitl [Z3 Z4]
    · isplitl [Z4]; · iexact Z4
      iexact Z3
    isplitl [Z1 Z2]
    · isplitl [Z1]; · iexact Z1
      iexact Z2
    iexact Z5
  iexact Hs

/-- All of a device's cells closed. -/
theorem close_all (c : Dev nD) : iprop(recs X Wt K ∗ atPos ER (barC c) 1 ∅ 0 ∗ bigSep Finset.univ fun n => St c n 8)
    ⊢ |={Set.univ}=> iprop(semVal (barC c) 0 ∗ (bigSep Finset.univ fun k : Own => semVal ((c : Thread nD τ), osem k) 0)
        ∗ (bigSep Finset.univ fun n => slotAny c n 0) ∗ (bigSep Finset.univ fun n => slotAny c n 1) : sProp 𝕄) := by
  rw [own_split, ← bigSep_sep' _ (fun n => slotAny c n 0)]
  iintro ⟨#HR, Hb, Hs⟩
  imod (Rounds.cell_close ER (ringRd X Wt) (Set.mem_univ (K (c, none))) (fun h => h) (R := 1) (duties_later X Wt c none)) $$ [Hb] with Zb
  · isplitr; · iapply (inv_at X Wt K c none); iexact HR
    iexact Hb
  imod ((bigSep_with_persistent (R := recs X Wt K) (S := Finset.univ) (Φ := fun n => St c n 8) fun n _ => close_ring X Wt K c n).trans (bigSep_fupd _ _)) $$ [Hs] with Hz
  · isplitr; · iexact HR
    iexact Hs
  ihave Hz := (Entails.of_eq (bigSep_sep' _ _ _)) $$ Hz
  icases Hz with ⟨Hz, Hs⟩
  imodintro
  isplitl [Zb]; · iexact Zb
  isplitl [Hz]; · iexact Hz
  iexact Hs

end Cert.KernelIdeal.Rs
-- ==== Proof.Deal.lean ====
/-
What the launch deals a device and what the exit gathers: the communication buffer cut in its thirty-two slots, the
duty tokens carried to the devices that pay them, and the units of credit matching what the devices owe.
-/
module

public import proofs.«01_k».proof.Proof.Body
public import Idealize.ShloMosaic.Lib.Ring

@[expose] public section

noncomputable section

namespace Cert.KernelIdeal.Rs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The communication buffer and its slots -/

theorem slot_set (n : Fin 16) (s : Fin 2) : (slotV n s).set = (slotR n s).set := View.set_slice_whole _ _

theorem mem_slot (n : Fin 16) (s : Fin 2) (i : S2x8x2x512x512.Idx) :
    i ∈ (slotR n s).set ↔ (i 0).val = n.val % 2 ∧ (i 1).val = n.val / 2 ∧ (i 2).val = s.val := by
  have h3 : (i 3).val < 512 := (i 3).isLt
  have h4 : (i 4).val < 512 := (i 4).isLt
  rw [Rect.mem_set_unit]
  constructor
  · intro h
    have a0 : n.val % 2 ≤ (i 0).val ∧ (i 0).val < n.val % 2 + 1 := h 0
    have a1 : n.val / 2 ≤ (i 1).val ∧ (i 1).val < n.val / 2 + 1 := h 1
    have a2 : s.val ≤ (i 2).val ∧ (i 2).val < s.val + 1 := h 2
    omega
  · rintro ⟨a0, a1, a2⟩ a
    fin_cases a
    · show n.val % 2 ≤ (i 0).val ∧ (i 0).val < n.val % 2 + 1; omega
    · show n.val / 2 ≤ (i 1).val ∧ (i 1).val < n.val / 2 + 1; omega
    · show s.val ≤ (i 2).val ∧ (i 2).val < s.val + 1; omega
    · show 0 ≤ (i 3).val ∧ (i 3).val < 0 + 512; omega
    · show 0 ≤ (i 4).val ∧ (i 4).val < 0 + 512; omega

theorem slots_apart (b b' : Fin 16 × Fin 2) (h : b ≠ b') : Disjoint (slotR b.1 b.2).set (slotR b'.1 b'.2).set := by
  rw [Finset.disjoint_left]
  intro i hi hi'
  rw [mem_slot] at hi hi'
  refine h (Prod.ext (Fin.ext ?_) (Fin.ext ?_))
  · have := b.1.isLt; have := b'.1.isLt; omega
  · omega

theorem slots_cover : Finset.univ.biUnion (fun b : Fin 16 × Fin 2 => (slotR b.1 b.2).set) = Finset.univ := by
  ext i
  have h0 : (i 0).val < 2 := (i 0).isLt
  have h1 : (i 1).val < 8 := (i 1).isLt
  have h2 : (i 2).val < 2 := (i 2).isLt
  simp only [Finset.mem_biUnion, Finset.mem_univ, true_and, iff_true]
  refine ⟨(⟨2 * (i 1).val + (i 0).val, by omega⟩, ⟨(i 2).val, h2⟩), (mem_slot _ _ i).mpr ⟨?_, ?_, rfl⟩⟩
  · show (i 0).val = (2 * (i 1).val + (i 0).val) % 2; omega
  · show (i 1).val = (2 * (i 1).val + (i 0).val) / 2; omega

omit [FloatOps F] in
theorem slots_pair (c : Dev nD) : (bigSep Finset.univ fun b : Fin 16 × Fin 2 => (slotAny c b.1 b.2 : sProp 𝕄))
    = iprop((bigSep Finset.univ fun n => slotAny c n 0) ∗ bigSep Finset.univ fun n => slotAny c n 1) := by
  rw [bigSep_univ_prod]
  simp only [bigSep_univ_two, bigSep_sep']

omit [FloatOps F] in
theorem slots_split (c : Dev nD) (f : Buf (Elt F) ((c : Thread nD τ).loc cBuf)) :
    (((c : Thread nD τ).loc cBuf) ↦{fullShare} f : sProp 𝕄)
      ⊢ iprop((bigSep Finset.univ fun n => slotAny c n 0) ∗ bigSep Finset.univ fun n => slotAny c n 1) := by
  rw [← slots_pair, Ring.pointsTo_blocks (fun b : Fin 16 × Fin 2 => (slotR b.1 b.2).set) slots_apart slots_cover f]
  refine bigSep_mono fun b _ => ?_
  unfold slotAny slotPts
  rw [slot_set]
  show (_ : sProp 𝕄) ⊢ _
  iintro H
  iexists f; iexact H

omit [FloatOps F] in
theorem slots_join (c : Dev nD) (f₀ : Buf (Elt F) ((c : Thread nD τ).loc cBuf)) :
    iprop((bigSep Finset.univ fun n => slotAny c n 0) ∗ bigSep Finset.univ fun n => slotAny c n 1)
      ⊢ (iprop(∃ f, ((c : Thread nD τ).loc cBuf) ↦{fullShare} f) : sProp 𝕄) := by
  rw [← slots_pair]
  refine BIBase.Entails.trans (bigSep_mono fun b _ => ?_)
    (Ring.pointsTo_blocks_join_exists (fun b : Fin 16 × Fin 2 => (slotR b.1 b.2).set) slots_apart slots_cover f₀)
  unfold slotAny slotPts
  rw [slot_set]
  exact Idealize.SL.BI.Entails.refl _

/-! ## Sums over small ranges -/

theorem swap_sums {M : Type} [URA M] {I J : Type} [Fintype I] [Fintype J] (Φ : I → J → sProp M) :
    (bigSep Finset.univ fun i => bigSep Finset.univ fun j => Φ i j) = bigSep Finset.univ fun j => bigSep Finset.univ fun i => Φ i j := by
  rw [← bigSep_univ_prod fun p : I × J => Φ p.1 p.2, bigSep_univ_equiv (Equiv.prodComm J I), bigSep_univ_prod]
  rfl

theorem fin_range {M : Type} [URA M] (k : ℕ) (Φ : ℕ → sProp M) : (bigSep Finset.univ fun j : Fin k => Φ j.val) = bigSep (Finset.Ico 0 k) Φ := by
  rw [show Finset.Ico 0 k = Finset.univ.map Fin.valEmbedding from by
    ext u
    simp only [Finset.mem_Ico, Finset.mem_map, Finset.mem_univ, true_and, Fin.valEmbedding_apply]
    exact ⟨fun h => ⟨⟨u, h.2⟩, rfl⟩, fun ⟨j, hj⟩ => by have := j.isLt; omega⟩, bigSep_map]
  rfl

/-- The events of `k` turns, one after another, are the turns of the sixteen rings. -/
theorem events_range {M : Type} [URA M] (k : ℕ) (Φ : Fin 16 → ℕ → sProp M) :
    bigSep (Finset.Ico 0 (16 * k)) (fun u => Φ (ringAt u) (turnAt u)) = bigSep Finset.univ fun n => bigSep (Finset.Ico 0 k) (Φ n) := by
  have e : ∀ (p : Fin 16 × Fin k), ringAt (16 * p.2.val + p.1.val) = p.1 ∧ turnAt (16 * p.2.val + p.1.val) = p.2.val := fun p =>
    ⟨ring_of p.1 p.2.val _ rfl, turn_of p.1 p.2.val _ rfl⟩
  let emb : Fin 16 × Fin k ↪ ℕ := ⟨fun p => 16 * p.2.val + p.1.val, fun p q h => by
    have h' : 16 * p.2.val + p.1.val = 16 * q.2.val + q.1.val := h
    have := p.1.isLt; have := q.1.isLt
    exact Prod.ext (Fin.ext (by omega)) (Fin.ext (by omega))⟩
  rw [show Finset.Ico 0 (16 * k) = Finset.univ.map emb from by
    ext u
    simp only [Finset.mem_Ico, Finset.mem_map, Finset.mem_univ, true_and]
    constructor
    · intro h
      exact ⟨(⟨u % 16, by omega⟩, ⟨u / 16, by omega⟩), by show 16 * (u / 16) + u % 16 = u; omega⟩
    · rintro ⟨p, hp⟩
      have hp' : 16 * p.2.val + p.1.val = u := hp
      have := p.1.isLt; have := p.2.isLt; omega, bigSep_map,
    bigSep_congr (s := Finset.univ) (fun (p : Fin 16 × Fin k) _ => show Φ (ringAt (emb p)) (turnAt (emb p)) = Φ p.1 p.2.val by
      rw [show emb p = 16 * p.2.val + p.1.val from rfl, (e p).1, (e p).2]), bigSep_univ_prod]
  exact bigSep_congr fun n _ => fin_range k (Φ n)

/-! ## Duty tokens -/

/-- A device's duties: its barrier's two, and per ring those of the seven departures, the seven arrivals and the six credits. -/
abbrev Tk : Type := Bool ⊕ (Fin 16 × (Fin 7 ⊕ Fin 7 ⊕ Fin 6))

def tkCell : Tk → Cell
  | .inl _ => none
  | .inr (n, .inl j) => sendK n (slotOf j.val)
  | .inr (n, .inr (.inl j)) => recvK n (slotOf (j.val + 1))
  | .inr (n, .inr (.inr _)) => credK n
def tkRound : Tk → ℕ
  | .inl _ => 0
  | .inr (_, .inl j) => j.val / 2
  | .inr (_, .inr (.inl j)) => j.val / 2
  | .inr (_, .inr (.inr j)) => j.val
def tkDuty : Tk → Bool
  | .inl d => d
  | .inr _ => false

theorem slot_inj {i j : ℕ} (h : slotOf i = slotOf j) (h' : i / 2 = j / 2) : i = j := by
  have : i % 2 = j % 2 := congrArg Fin.val h
  omega

theorem tk_injective {k k' : Tk} (h1 : tkCell k = tkCell k') (h2 : tkRound k = tkRound k') (h3 : tkDuty k = tkDuty k') : k = k' := by
  rcases k with d | ⟨n, j | j | j⟩ <;> rcases k' with d' | ⟨n', j' | j' | j'⟩ <;>
    simp only [tkCell, tkRound, tkDuty, sendK, recvK, credK, Option.some.injEq, Sum.inl.injEq, Sum.inr.injEq, Prod.mk.injEq, reduceCtorEq] at h1 h2 h3
  · rw [h3]
  · obtain ⟨rfl, hs⟩ := h1; rw [Fin.ext (slot_inj hs h2)]
  · obtain ⟨rfl, hs⟩ := h1
    have := slot_inj hs (show (j.val + 1) / 2 = (j'.val + 1) / 2 by have : (j.val + 1) % 2 = (j'.val + 1) % 2 := congrArg Fin.val hs; omega)
    rw [Fin.ext (show j.val = j'.val by omega)]
  · obtain rfl := h1; rw [Fin.ext h2]

abbrev tokOf (ck : Dev nD × Tk) : GSem nD τ sig × ℕ × Bool := (cellAt ck.1 (tkCell ck.2), tkRound ck.2, tkDuty ck.2)

theorem tokOf_injective : Function.Injective tokOf := by
  rintro ⟨c, k⟩ ⟨c', k'⟩ h
  have h1 : c = c' := congrArg (fun x : GSem nD τ sig × ℕ × Bool => x.1.1.1) h
  have h2 : csem (tkCell k) = csem (tkCell k') := congrArg (fun x : GSem nD τ sig × ℕ × Bool => x.1.2) h
  have h3 : tkRound k = tkRound k' := congrArg (fun x : GSem nD τ sig × ℕ × Bool => x.2.1) h
  have h4 : tkDuty k = tkDuty k' := congrArg (fun x : GSem nD τ sig × ℕ × Bool => x.2.2) h
  rw [h1, tk_injective (csem_injective h2) h3 h4]

theorem cellAt_injective : Function.Injective fun ck : Dev nD × Cell => cellAt ck.1 ck.2 := by
  rintro ⟨c, k⟩ ⟨c', k'⟩ h
  have h1 : c = c' := congrArg (fun g : GSem nD τ sig => g.1.1) h
  have h2 : csem k = csem k' := congrArg Prod.snd h
  rw [h1, csem_injective h2]

/-- The device whose duty of kind `k` a device pays. -/
def payTo : Tk → Dev nD ≃ Dev nD
  | .inl true => ⟨leftD, rightD, right_left, left_right⟩
  | .inl false => ⟨rightD, leftD, left_right, right_left⟩
  | .inr (_, .inl _) => Equiv.refl _
  | .inr (n, .inr (.inl _)) => around n
  | .inr (n, .inr (.inr _)) => (around n).symm

def tok (c : Dev nD) (k : Tk) : sProp 𝕄 := dutyTok ER (cellAt c (tkCell k)) (tkRound k) (tkDuty k)
/-- The tokens of a device's own cells, as minted. -/
def toks (c : Dev nD) : sProp 𝕄 := bigSep Finset.univ (tok c)
/-- The tokens of the credits a ring's device gives; the units it awaits. -/
def giveCred (c : Dev nD) (n : Fin 16) : sProp 𝕄 := bigSep (Finset.Ico 0 6) fun j => dutyTok ER (credC (srcD n c) n) j false
def haveCred (c : Dev nD) (n : Fin 16) : sProp 𝕄 := bigSep (Finset.Ico 0 6) fun j => cred (tallyAt (credC c n) j 1)
/-- The tokens of the duties a device pays. -/
def payToks (c : Dev nD) : sProp 𝕄 :=
  iprop((dutyTok ER (barC (leftD c)) 0 true ∗ dutyTok ER (barC (rightD c)) 0 false) ∗ bigSep Finset.univ fun n => iprop(toSend c n 0 ∗ giveCred c n))

omit [FloatOps F] in
theorem payToks_deal (c : Dev nD) : (bigSep Finset.univ fun k : Tk => (tok (payTo k c) k : sProp 𝕄)) ⊢ payToks c := by
  unfold payToks
  rw [bigSep_univ_sum, bigSep_univ_prod, bigSep_univ_eq_bigSepL [true, false] (by decide) (by decide), bigSepL_cons_cons, bigSepL_singleton]
  refine sep_mono_right (bigSep_mono fun n _ => ?_)
  rw [bigSep_univ_sum, bigSep_univ_sum]
  unfold toSend giveCred
  rw [bigSep_sep', ← fin_range, ← fin_range, ← fin_range]
  show (iprop((bigSep Finset.univ fun j : Fin 7 => tok (payTo (.inr (n, .inl j)) c) (.inr (n, .inl j)))
    ∗ (bigSep Finset.univ fun j : Fin 7 => tok (payTo (.inr (n, .inr (.inl j))) c) (.inr (n, .inr (.inl j))))
    ∗ bigSep Finset.univ fun j : Fin 6 => tok (payTo (.inr (n, .inr (.inr j))) c) (.inr (n, .inr (.inr j)))) : sProp 𝕄) ⊢ _
  iintro ⟨H1, H2, H3⟩
  isplitr [H3]
  · isplitl [H1]; · iexact H1
    iexact H2
  iexact H3

omit [FloatOps F] in
theorem toks_around : (bigSep Finset.univ fun c : Dev nD => (toks c : sProp 𝕄)) ⊢ bigSep Finset.univ fun c : Dev nD => payToks c := by
  unfold toks
  rw [swap_sums, bigSep_congr (s := Finset.univ) fun (k : Tk) _ => bigSep_univ_equiv (payTo k) (fun c => (tok c k : sProp 𝕄)), swap_sums]
  exact bigSep_mono fun c _ => payToks_deal c

/-! ## Positions -/

theorem cells_split {M : Type} [URA M] (Φ : Cell → sProp M) : bigSep Finset.univ Φ = iprop(Φ none ∗ bigSep Finset.univ fun k : Own => Φ (some k)) := by
  rw [bigSep_univ_at _ none, show (Finset.univ : Finset Cell).erase none = Finset.univ.map Function.Embedding.some from by
    ext k
    rcases k with _ | k
    · simp
    · simp, bigSep_map]
  rfl

/-- Every cell of a device at its first round. -/
def ats (c : Dev nD) : sProp 𝕄 := bigSep Finset.univ fun k : Cell => atPos ER (cellAt c k) 0 ∅ 0

omit [FloatOps F] in
theorem ats_eq (c : Dev nD) : (ats c : sProp 𝕄) ⊢ iprop(atPos ER (barC c) 0 ∅ 0 ∗ bigSep Finset.univ fun n => pos c n 0) := by
  unfold ats
  rw [cells_split, own_split]
  refine sep_mono_right (bigSep_mono fun n _ => ?_)
  unfold pos
  show (_ : sProp 𝕄) ⊢ _
  iintro ⟨⟨H1, H2⟩, ⟨H3, H4⟩, H5⟩
  isplitl [H3]; · iexact H3
  isplitl [H4]; · iexact H4
  isplitl [H2]; · iexact H2
  isplitl [H1]; · iexact H1
  iexact H5

/-! ## The launch credit -/

/-- The units a device awaits. -/
def credits (c : Dev nD) : sProp 𝕄 := iprop(cred (tallyAt (barC c) 0 2) ∗ bigSep Finset.univ fun n => iprop(toRecv c n 0 ∗ haveCred c n))

omit [FloatOps F] in
theorem launch_credits (c : Dev nD) : (Pipeline.launchCred O₀ c : sProp 𝕄) ⊢ credits c := by
  have hO : (O₀ : Dev nD → CellTallies nD τ sig ℕ) = fun d => (((∑ u ∈ Finset.Ico 0 (16 * 7), payR d u) + ∑ u ∈ Finset.Ico 0 (16 * 6), payC d u)
      + tallyAt (barC (rightD d)) 0 1) + tallyAt (barC (leftD d)) 0 1 := rfl
  have hR (u : ℕ) : (Pipeline.launchCred (fun d => payR d u) c : sProp 𝕄) ⊢ cred (tallyAt (recvC c (ringAt u) (slotOf (turnAt u + 1))) (turnAt u) N) :=
    Pipeline.launchCred_tallyAt (.dma (recvQ (ringAt u) (slotOf (turnAt u + 1)))) (dstD (ringAt u)) (srcD (ringAt u)) (dst_src _) (src_dst _) _ _ c
  have hC (u : ℕ) : (Pipeline.launchCred (fun d => payC d u) c : sProp 𝕄) ⊢ cred (tallyAt (credC c (ringAt u)) (turnAt u) 1) :=
    Pipeline.launchCred_tallyAt (.reg (credQ (ringAt u))) (srcD (ringAt u)) (dstD (ringAt u)) (src_dst _) (dst_src _) _ _ c
  have hR' : (bigSep (Finset.Ico 0 (16 * 7)) fun u => (Pipeline.launchCred (fun d => payR d u) c : sProp 𝕄))
      ⊢ bigSep (Finset.Ico 0 (16 * 7)) fun u => cred (tallyAt (recvC c (ringAt u) (slotOf (turnAt u + 1))) (turnAt u) N) := bigSep_mono fun u _ => hR u
  have hC' : (bigSep (Finset.Ico 0 (16 * 6)) fun u => (Pipeline.launchCred (fun d => payC d u) c : sProp 𝕄))
      ⊢ bigSep (Finset.Ico 0 (16 * 6)) fun u => cred (tallyAt (credC c (ringAt u)) (turnAt u) 1) := bigSep_mono fun u _ => hC u
  rw [hO, Pipeline.launchCred_add, Pipeline.launchCred_add, Pipeline.launchCred_add, Pipeline.launchCred_sum, Pipeline.launchCred_sum]
  unfold credits
  rw [bigSep_sep']
  unfold toRecv haveCred
  rw [← events_range 7 fun n j => cred (tallyAt (recvC c n (slotOf (j + 1))) j N), ← events_range 6 fun n j => cred (tallyAt (credC c n) j 1),
    show (tallyAt (barC c) 0 2 : CellTallies nD τ sig ℕ) = tallyAt (barC c) 0 1 + tallyAt (barC c) 0 1 from (tallyAt_add (barC c) 0 1 1).symm]
  iintro ⟨⟨⟨HR, HC⟩, H1⟩, H2⟩
  isplitl [H1 H2]
  · iapply (cred_add _ _).2
    isplitl [H1]
    · iapply (Pipeline.launchCred_tallyAt (.reg barQ) rightD leftD right_left left_right 0 1 c); iexact H1
    · iapply (Pipeline.launchCred_tallyAt (.reg barQ) leftD rightD left_right right_left 0 1 c); iexact H2
  isplitl [HR]
  · iapply hR'; iexact HR
  · iapply hC'; iexact HC

/-! ## Staging waits -/

theorem stage_no : ∀ (w : Fin 3) (s : Fin (spec0 w).nbuf), ((spec0 w).sem s).val < (sendQ 0 0).val := by decide +kernel

/-- A staging semaphore is none of the rings'. -/
theorem stage_ne (w : Fin 3) (s : Fin (spec0 w).nbuf) (k : Cell) : csem k ≠ .dma ((spec0 w).sem s) := by
  intro h
  have hn : semNo (csem k) = (0, ((spec0 w).sem s).val) := congrArg semNo h
  have hl := stage_no w s
  rcases k with _ | ⟨n, t⟩ | ⟨n, t⟩ | n <;> simp only [csem, osem, send_no, recv_no, cred_no, bar_reg, Prod.mk.injEq] at hn
  · exact absurd hn.1 (by decide)
  · omega
  · omega
  · exact absurd hn.1 (by decide)

theorem lv_stage (c : Dev nD) (w : Fin 3) (s : Fin (spec0 w).nbuf) (i : ℕ) : lv ((c : Thread nD τ), .dma ((spec0 w).sem s)) i = 0 := by
  unfold lv dec Function.partialInv
  rw [dif_neg (fun ⟨k, hk⟩ => stage_ne w s k hk)]
  rfl

theorem O₀_level {c : Dev nD} {g : GSem nD τ sig} {i : ℕ} (h : 0 < O₀ c g i) : i ∈ Lset g ∧ 0 < lv g i := by
  have key : 0 < due c 0 g i → i ∈ Lset g ∧ 0 < lv g i := fun h => ⟨(due_level h).1, Nat.lt_of_succ_lt (due_level h).2.1⟩
  have hbar (d : Dev nD) : 0 ∈ Lset (barC d) ∧ 0 < lv (barC d) 0 := by
    rw [Lset_tc, lv_bar]; exact ⟨Finset.mem_range.mpr (by decide), by decide⟩
  unfold O₀ O₁ at h
  generalize due c 0 = D at h key
  by_cases h1 : g = barC (rightD c) ∧ i = 0
  · obtain ⟨rfl, rfl⟩ := h1; exact hbar _
  by_cases h2 : g = barC (leftD c) ∧ i = 0
  · obtain ⟨rfl, rfl⟩ := h2; exact hbar _
  have e : (D + tallyAt (barC (rightD c)) 0 1 + tallyAt (barC (leftD c)) 0 1 : CellTallies nD τ sig ℕ) g i = D g i := by
    rw [Pi.add_apply, Finsupp.add_apply, Pi.add_apply, Finsupp.add_apply, tallyAt_apply, tallyAt_apply, if_neg h1, if_neg h2]; rfl
  exact key (e ▸ h)

omit [FloatOps F] in
theorem mayWait_stage (c : Dev nD) (w : Fin 3) (s : Fin (spec0 w).nbuf) (O : CellTallies nD τ sig ℕ) (hO : O = O₀ c ∨ O = 0) :
    (levAts Lset lv : sProp 𝕄) ⊢ MayWait (c : Thread nD τ) (.dma ((spec0 w).sem s)) 0 O := by
  rcases hO with rfl | rfl
  · exact mayWait_below c _ 0 0 (by decide) (le_of_eq (lv_stage c w s 0)) _ fun g j => O₀_level
  · rw [MayWait_zero]; iintro -; iempintro

end Cert.KernelIdeal.Rs
-- ==== Proof.Launch.lean ====
/-
The launch: the whole kernel run on all eight devices, from any memory, ending with each device's result at the
strips its rings close with, the operands as they were and every counter at zero.
-/
module

public import Idealize.ShloMosaic.Lib.Pipeline.CollectiveSegs
public import proofs.«01_k».proof.Proof.Deal
public import proofs.«01_k».proof.Proof.Gen.KernelIdeal.Points

@[expose] public section

noncomputable section

namespace Cert.KernelIdeal.Rs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The result, strip by strip -/

/-- The ring whose strip an index of the result lies in, and the index within the strip. -/
def ringOf (i : S512x8192.Idx) : Fin 16 := ⟨2 * ((i 1).val / 512 % 8) + (i 1).val / 512 / 8, by
  have : (i 1).val < 8192 := (i 1).isLt
  omega⟩

theorem within_lt (i : S512x8192.Idx) (a : Fin 2) : (i a).val - colAt (ringOf i) a < S512x512.size a ∧ colAt (ringOf i) a ≤ (i a).val := by
  have h0 : (i 0).val < 512 := (i 0).isLt
  have h1 : (i 1).val < 8192 := (i 1).isLt
  fin_cases a
  · show (i 0).val - 0 < 512 ∧ 0 ≤ (i 0).val; omega
  · show (i 1).val - ((2 * ((i 1).val / 512 % 8) + (i 1).val / 512 / 8) % 2 * 4096 + (2 * ((i 1).val / 512 % 8) + (i 1).val / 512 / 8) / 2 * 512) < 512
      ∧ (2 * ((i 1).val / 512 % 8) + (i 1).val / 512 / 8) % 2 * 4096 + (2 * ((i 1).val / 512 % 8) + (i 1).val / 512 / 8) / 2 * 512 ≤ (i 1).val
    omega
def within (i : S512x8192.Idx) : S512x512.Idx := fun a => ⟨(i a).val - colAt (ringOf i) a, (within_lt i a).1⟩

theorem emb_within (i : S512x8192.Idx) : (colR (ringOf i)).emb (within i) = i := by
  funext a
  refine Fin.ext ((Rect.emb_apply _ _ a).trans ?_)
  show colAt (ringOf i) a + 1 * ((i a).val - colAt (ringOf i) a) = (i a).val
  have := (within_lt i a).2
  omega

section Out
variable (X : Dev nD → FVec F S4096x512 .bf16) (Wt : Dev nD → FVec F S512x8192 .bf16)

/-- The result on device `c`. -/
def outOf (c : Dev nD) : FVec F S512x8192 .bf16 := fun i => resV X Wt (ringOf i) c (within i)

theorem eq_outOf (c : Dev nD) (f : FVec F S512x8192 .bf16) (h : ∀ n : Fin 16, oRead n f = resV X Wt n c) : f = outOf X Wt c := by
  funext i
  show f i = resV X Wt (ringOf i) c (within i)
  rw [← h (ringOf i)]
  show f i = f ((colR (ringOf i)).emb (within i))
  rw [emb_within]

end Out

variable (m : (ℓ : Loc nD τ sig) → Buf (Elt F) ℓ) (ρ : Dev nD → PrngReg)

/-- The memory at launch. -/
def s₀ : MemSt nD τ sig (Elt F) := ⟨m, fun _ => 0, ρ⟩

/-- The operands of device `c`, and its result. -/
abbrev argX (c : Dev nD) : FVec F S4096x512 .bf16 := m ((c : Thread nD τ).loc main_arg0)
abbrev argW (c : Dev nD) : FVec F S512x8192 .bf16 := m ((c : Thread nD τ).loc main_arg1)
abbrev outAt (c : Dev nD) : FVec F S512x8192 .bf16 := outOf (argX m) (argW m) c

omit [FloatOps F] in
theorem blk_x (f : main_arg0.ty.Contents (Elt F)) : (win0_0.blk (0 : Fin 1)).view.read (Elt F) f = f :=
  Memref.read_access_unit_zero (Elt F) main_arg0 (show (fun a => (win0_0.index (0 : Fin 1)) a * main_arg0.ty.shape.size a) = fun _ => 0 from
    funext fun a => by fin_cases a <;> decide) (fun a => by fin_cases a <;> decide) f
omit [FloatOps F] in
theorem blk_w (f : main_arg1.ty.Contents (Elt F)) : (win0_1.blk (0 : Fin 1)).view.read (Elt F) f = f :=
  Memref.read_access_unit_zero (Elt F) main_arg1 (show (fun a => (win0_1.index (0 : Fin 1)) a * main_arg1.ty.shape.size a) = fun _ => 0 from
    funext fun a => by fin_cases a <;> decide) (fun a => by fin_cases a <;> decide) f
omit [FloatOps F] in
theorem blk_o (f : main_v1.ty.Contents (Elt F)) : (win0_2.blk (0 : Fin 1)).view.read (Elt F) f = f :=
  Memref.read_access_unit_zero (Elt F) main_v1 (show (fun a => (win0_2.index (0 : Fin 1)) a * main_v1.ty.shape.size a) = fun _ => 0 from
    funext fun a => by fin_cases a <;> decide) (fun a => by fin_cases a <;> decide) f

/-! ## The pipeline's proof data -/

/-- What stays with device `c`: every cell of its own at its first round and the tokens of the duties it pays. -/
def linear (c : Dev nD) : sProp 𝕄 := iprop(ats c ∗ payToks c)
/-- What the global step makes of what the launch dealt. -/
def G' (c : Dev nD) : sProp 𝕄 := iprop(∃ K, recs (argX m) (argW m) K ∗ linear c)
/-- What device `c`'s body starts from. -/
def start (c : Dev nD) : sProp 𝕄 := iprop(G' m c ∗ credits c ∗ levAts Lset lv)
def Φ₀ (c : Dev nD) : sProp 𝕄 := iprop(start m c ∗ ∃ f, ((c : Thread nD τ).loc cBuf) ↦{fullShare} f)
/-- What it ends with: its communication buffer, and every cell closed. -/
def Φ₁ (c : Dev nD) : sProp 𝕄 :=
  iprop((∃ f, ((c : Thread nD τ).loc cBuf) ↦{fullShare} f) ∗ (bigSep Finset.univ fun k : Own => semVal ((c : Thread nD τ), osem k) 0) ∗ semVal (barC c) 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => argX m c
    | ⟨1, _⟩ => argW m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (Y : b.ty.Contents (Elt F)) :
    (owns (Ix := ℕ) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

/-! ## The body -/

def bodyPre (c : Dev nD) : sProp 𝕄 :=
  iprop(Φ₀ m c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt 0 t0_0.succ ∗ stg c cc0_stg0_0 (argX m c) ∗ stg c cc0_stg1_0 (argW m c) ∗ stg c cc0_stg2_0 (outAt m c))

theorem before_x (c : Dev nD) (d) : (dats m ρ 0 c).before (0 : Fin 3) t0_0 d = argX m c := by
  unfold Dat.before; rw [if_pos (fetch0_0 t0_0)]; exact Eq.trans rfl (blk_x (argX m c))
theorem before_w (c : Dev nD) (d) : (dats m ρ 0 c).before (1 : Fin 3) t0_0 d = argW m c := by
  unfold Dat.before; rw [if_pos (fetch0_1 t0_0)]; exact Eq.trans rfl (blk_w (argW m c))

omit [FloatOps F] in
/-- What the launch deals a device, ring by ring. -/
theorem fresh_intro (c : Dev nD) : iprop(linear c ∗ credits c) ⊢ (iprop(atPos ER (barC c) 0 ∅ 0 ∗ cred (tallyAt (barC c) 0 2)
    ∗ dutyTok ER (barC (leftD c)) 0 true ∗ dutyTok ER (barC (rightD c)) 0 false ∗ bigSep Finset.univ fun n => Fresh c n) : sProp 𝕄) := by
  have hF : (iprop((bigSep Finset.univ fun n => pos c n 0) ∗ (bigSep Finset.univ fun n => iprop(toSend c n 0 ∗ giveCred c n))
      ∗ bigSep Finset.univ fun n => iprop(toRecv c n 0 ∗ haveCred c n)) : sProp 𝕄) ⊢ bigSep Finset.univ fun n => Fresh c n := by
    rw [← bigSep_sep', ← bigSep_sep']
    refine bigSep_mono fun n _ => ?_
    unfold Fresh toCred giveCred haveCred
    rw [bigSep_sep']
    show (_ : sProp 𝕄) ⊢ _
    iintro ⟨H1, ⟨H2, H3⟩, H4, H5⟩
    isplitl [H1]; · iexact H1
    isplitl [H2]; · iexact H2
    isplitl [H4]; · iexact H4
    isplitl [H3]; · iexact H3
    iexact H5
  unfold linear payToks credits
  iintro ⟨⟨Ha, ⟨HL, HR⟩, Ht⟩, Hc, Hr⟩
  ihave Ha := (ats_eq (F := F) c) $$ Ha
  icases Ha with ⟨Hb, Hp⟩
  isplitl [Hb]; · iexact Hb
  isplitl [Hc]; · iexact Hc
  isplitl [HL]; · iexact HL
  isplitl [HR]; · iexact HR
  iapply hF
  isplitl [Hp]; · iexact Hp
  isplitl [Ht]; · iexact Ht
  iexact Hr

theorem run_core (c : Dev nD) : bodyPre m ρ c ⊢ wp frame (wpE (defs₀ (F := F)) 𝒱₀ (c : Thread nD τ) none) Set.univ (whole c) (fun _ => bodyPost m ρ c) := by
  show _ ⊢ WP c (whole c) fun _ => bodyPost m ρ c
  unfold bodyPre Φ₀ start G'
  iintro ⟨⟨⟨⟨%K, #HR, Hl⟩, Hcr, #Hlev⟩, %fs, Hscr⟩, Ho, ⟨%d0, %g0, %hg0, Hx⟩, ⟨%d1, %g1, %hg1, Hw⟩, ⟨%d2, %g2, %hg2, Hout⟩⟩
  have hx : g0 = argX m c := hg0.trans (before_x m ρ c d0)
  have hw : g1 = argW m c := hg1.trans (before_w m ρ c d1)
  subst hx
  subst hw
  unfold Dat.owesAt Pipeline.owesWithin
  icases Ho with ⟨%W, %hW, HO⟩
  ihave Hs := (slots_split (F := F) c fs) $$ Hscr
  icases Hs with ⟨Hs0, Hs1⟩
  ihave Hf := (fresh_intro (F := F) c) $$ [Hl Hcr]
  · isplitl [Hl] <;> iassumption
  icases Hf with ⟨Hb, Hc, HtL, HtR, Hf⟩
  iapply (wp_whole (argX m) (argW m) K c)
  isplitr; · iexact HR
  isplitr; · iexact Hlev
  isplitl [Hb]; · iexact Hb
  isplitl [Hc]; · iexact Hc
  isplitl [HtL]; · iexact HtL
  isplitl [HtR]; · iexact HtR
  isplitl [Hf]; · iexact Hf
  isplitl [Hs0]; · iexact Hs0
  isplitl [Hs1]; · iexact Hs1
  isplitl [Hx]; · unfold xPts; iexact Hx
  isplitl [Hw]; · unfold wPts; iexact Hw
  isplitl [Hout]; · iexists g2; unfold oPts; iexact Hout
  isplitl [HO]; · iexists W; iexact HO
  unfold Inv
  iintro ⟨Hb, Hst, Hx, Hw, ⟨%f, %hf, Hout⟩, ⟨%W', HO⟩⟩
  have hout : f = outAt m c := eq_outOf (argX m) (argW m) c f fun n => hf n (by have := n.isLt; omega)
  subst hout
  imod (close_all (argX m) (argW m) K c) $$ [Hb Hst] with ⟨Hzb, Hz, Hs0, Hs1⟩
  · isplitr; · iexact HR
    isplitl [Hb]; · iexact Hb
    ihave Hst := (Entails.of_eq (bigSep_congr (s := Finset.univ) fun (n : Fin 16) _ =>
      congrArg (St c n : ℕ → sProp 𝕄) (show turns 128 n = 8 by unfold turns; have := n.isLt; omega))) $$ Hst
    iexact Hst
  ihave Hscr := (slots_join (F := F) c fs) $$ [Hs0 Hs1]
  · isplitl [Hs0] <;> iassumption
  imodintro
  unfold bodyPost Φ₁ Dat.owesAt Pipeline.owesWithin
  isplitl [Hscr Hz Hzb]
  · isplitl [Hscr]; · iexact Hscr
    isplitl [Hz] <;> iassumption
  isplitl [HO]
  · iexists W'
    isplitr; · ipureintro; exact fun _ _ => Or.inl trivial
    ihave HO := (Entails.of_eq (congrArg (fun O => (owes (c : Thread nD τ) O W' : sProp 𝕄)) (due_close c 128 (by decide)))) $$ HO
    iexact HO
  isplitl [Hx]
  · iexists _; isplitr; · (ipureintro; rfl)
    unfold xPts; iexact Hx
  isplitl [Hw]
  · iexists _; isplitr; · (ipureintro; rfl)
    unfold wPts; iexact Hw
  iexists _; isplitr; · (ipureintro; rfl)
  unfold oPts; iexact Hout

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

attribute [local irreducible] cc0_body whole in
theorem body_obligation (c : Dev nD) : BodyObligation (dats (F := F) m ρ 0 c) (defs₀ (F := F)) 𝒱₀ 0 Set.univ := fun t => by
  rw [fin_N0 t]
  rw [bigSep_W, bigSep_W]
  simp only [owns_whole_eq]
  show bodyPre m ρ c ⊢ wp frame (wpE (defs₀ (F := F)) 𝒱₀ c none) Set.univ
    (cc0_body xM (Memref.isWhole_whole _) wM (Memref.isWhole_whole _) oM (Memref.isWhole_whole _) cM (Memref.isWhole_whole _) cc0_scratch1 cc0_scratch2 cc0_scratch3)
    (fun _ => bodyPost m ρ c)
  rw [body_eq, wp_deviceId]
  beta_reduce
  exact run_core m ρ c

/-! ## The launch -/

theorem osem_injective : Function.Injective osem := fun a b h => Option.some.inj (csem_injective (show csem (some a) = csem (some b) from h))

theorem ownSemFacts : Pipeline.OwnSemFacts cfg0.spec osem where
  isScoped k := by
    rcases k with ⟨n, s⟩ | ⟨n, s⟩ | n
    · revert n s; decide +kernel
    · revert n s; decide +kernel
    · revert n; decide +kernel
  inj := osem_injective
  disj k w s := stage_ne w s (some k)

theorem share_eq (c : Dev nD) (w : Fin cfg0.W) : (dats m ρ 0 c).share w = fullShare := by unfold Dat.share; split <;> rfl

def ringCells : Finset (GSem nD τ sig) := Finset.univ.map ⟨fun ck : Dev nD × Cell => cellAt ck.1 ck.2, cellAt_injective⟩
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The schedule at the launch's operands. -/
abbrev Sch : Rounds.Schedule (GSem nD τ sig) Bool 𝕄 := ringRd (argX m) (argW m)

/-- What the launch element deals device `c`. -/
def G (c : Dev nD) : sProp 𝕄 :=
  iprop((bigSep Finset.univ fun k : Cell => roundState ER (Sch m) (cellAt c k) 0)
    ∗ (ats c ∗ bigSep Finset.univ fun k : Cell => reached ER (cellAt c k) 0) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cell => Φ (cellAt c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Sch m) ringCells ringToks) $$ HX with ⟨Hst, Hr, Hat, Htok⟩
  imodintro
  ihave Hst' := (Entails.of_eq (hX fun g => roundState ER (Sch m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G ats; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (barC c) 0 := by
  unfold unscopedSems0; rw [bigSep_eq_bigSepL_of_eq [SemLoc.reg barQ] (by decide) (by decide)]; rfl

omit [FloatOps F] in
theorem ownSems0_eq (c : Dev nD) : (Pipeline.ownSems0 (Ix := ℕ) (Name := ℕ) (U := UU) (Lvl := ℕ) (Val := Elt F) (τ := τ) osem c : sProp 𝕄)
    = bigSep Finset.univ fun k : Own => semVal ((c : Thread nD τ), osem k) 0 := rfl

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (Sch m) κ (cellAt c k)))
          ∗ (ats c ∗ bigSep Finset.univ fun k : Cell => reached ER (cellAt c k) 0) ∗ toks c) := by
  have hv : (bigSep Finset.univ fun k : Cell => (semVal (cellAt c k) 0 : sProp 𝕄))
      = iprop(semVal (barC c) 0 ∗ bigSep Finset.univ fun k : Own => semVal ((c : Thread nD τ), osem k) 0) := cells_split _
  rw [ownSems0_eq, unscopedSems0_eq]
  unfold G
  iintro ⟨Hos, Hus, Hst, Hat, Htok⟩
  ihave Hv := (Entails.of_eq hv.symm) $$ [Hos Hus]
  · isplitl [Hus]; · iexact Hus
    iexact Hos
  imod (show iprop((bigSep Finset.univ fun k : Cell => semVal (cellAt c k) 0) ∗ bigSep Finset.univ fun k : Cell => roundState ER (Sch m) (cellAt c k) 0)
      ⊢ (|={Set.univ}=> bigSep Finset.univ fun k : Cell => iprop(∃ κ : ℕ, cellInv ER (Sch m) κ (cellAt c k)) : sProp 𝕄) from by
        rw [← bigSep_sep']
        exact (bigSep_mono fun k _ => (Rounds.body_intro ER (Sch m) (cellAt c k)).trans inv_alloc).trans (bigSep_fupd _ _)) $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun k : Cell => iprop(∃ κ : ℕ, cellInv ER (Sch m) κ (cellAt c k)))
          ∗ (ats c ∗ bigSep Finset.univ fun k : Cell => reached ER (cellAt c k) 0) ∗ toks c) : sProp 𝕄)
      ⊢ bigSep Finset.univ (G' m) := by
  rw [bigSep_sep', bigSep_sep', ← bigSep_univ_prod (fun ck : Dev nD × Cell => iprop(∃ κ : ℕ, cellInv ER (Sch m) κ (cellAt ck.1 ck.2))),
    bigSep_sep', ← bigSep_univ_prod (fun ck : Dev nD × Cell => (reached ER (cellAt ck.1 ck.2) 0 : sProp 𝕄))]
  iintro ⟨HI, ⟨Hat, #HR⟩, Htok⟩
  ihave HK := (BI.bigSep_exists_pi Finset.univ (fun (ck : Dev nD × Cell) (κ : ℕ) => (cellInv ER (Sch m) κ (cellAt ck.1 ck.2) : sProp 𝕄))) $$ HI
  icases HK with ⟨%K, #HI⟩
  ihave Htk := (toks_around (F := F)) $$ Htok
  iapply (bigSep_with_persistent (R := recs (argX m) (argW m) K) (S := Finset.univ) (Φ := fun c => linear c) (Ψ := G' m) fun c _ => by
    unfold G'
    iintro H; iexists K; iexact H)
  isplitr
  · unfold recs; isplitl; · iexact HI
    iexact HR
  · unfold linear
    iapply (Entails.of_eq (bigSep_sep' Finset.univ (fun c : Dev nD => (ats c : sProp 𝕄)) payToks).symm)
    isplitl [Hat]; · iexact Hat
    iexact Htk

/-- The global step. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts Lset lv
        ∗ Pipeline.launchCred O₀ c ∗ prngReg c (ρ c) ∗ G' m c)
      ⊢ |={Set.univ}=> iprop(start m c ∗ emp) := by
  iintro ⟨-, Hlev, Hcr, -, HG⟩
  ihave Hc := (launch_credits (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hr, Hz, Hzb⟩
  isplitl [Hzb]; · iexact Hzb
  isplitl [Hz]; · iexact Hz
  iexact Hr

theorem stage_waits (c : Dev nD) : (levAts Lset lv : sProp 𝕄) ⊢ Pipeline.cellsWaits cfgs (dats m ρ) 0 0 c :=
  Pipeline.cellsWaits_intro cfgs (dats m ρ) 0 0 c fun w s t =>
    mayWait_stage c w s _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

attribute [local irreducible] cc0_body in
set_option maxRecDepth 8000 in
theorem run_arrays : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := Lset) (lv := lv) (hL := Lset_of_ne) (hwaits := stage_waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_x (c : Dev nD) : finalA m ρ c (0 : Fin 3) = m ((c : Thread nD τ).loc main_arg0) := (dats (F := F) m ρ 0 c).arrAt_in (0 : Fin 3) rfl _
theorem final_w (c : Dev nD) : finalA m ρ c (1 : Fin 3) = m ((c : Thread nD τ).loc main_arg1) := (dats (F := F) m ρ 0 c).arrAt_in (1 : Fin 3) rfl _
theorem final_o (c : Dev nD) : finalA m ρ c (2 : Fin 3) = outAt m c := by
  refine (blk_o _).symm.trans ?_
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from flush0_2 _, if_pos rfl]
  exact View.read_write_univ _ _

/-- Every fair execution ends, with the result computed, the operands as they were and every counter at zero. -/
theorem run_main : θ_run defs (onTc (τ := τ) (main (F := F))) (s₀ m ρ) (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c (2 : Fin 3)).trans (final_o m ρ c), (h.1 c (0 : Fin 3)).trans (final_x m ρ c),
    (h.1 c (1 : Fin 3)).trans (final_w m ρ c)⟩, h.2⟩) (run_arrays m ρ)

end Cert.KernelIdeal.Rs
-- ==== Proof.Value.lean ====
/-
What the rings compute over the reals: every strip of device `c`'s result is the sum over all eight devices of
their products for block `c` of the rows, clamped below at zero, whichever way the ring runs.
-/
module

public import proofs.«01_k».proof.Proof.Launch
public import Idealize.ShloMosaic.PureOps.Ideal
public import Idealize.ShloMosaic.Lib.Pointwise

@[expose] public section

noncomputable section

namespace Cert.KernelIdeal.Rs

open Cert.KernelIdeal Cert.KernelIdeal.Gen
open Idealize.ShloMosaic Idealize.ShloMosaic.TcCoe

/-! ## Where a partial sum is bound for -/

/-- The block of rows that what ring `n` sends from device `c` after `h` additions belongs to. -/
def bound (n : Fin 16) (h : ℕ) (c : Dev nD) : Fin 8 :=
  ⟨if n.val % 2 = 0 then (c.val + 15 - h) % 8 else (c.val + 1 + h) % 8, by split <;> omega⟩

theorem dev_lt (c : Dev nD) : c.val < 8 := c.isLt

theorem srcD_val (n : Fin 16) (c : Dev nD) : (srcD n c).val = if n.val % 2 = 0 then (c.val + 7) % 8 else (c.val + 1) % 8 := by
  unfold srcD
  split
  · exact k0_dev1_eq c
  · exact k0_dev2_eq c

/-- A partial sum keeps its block from one device to the next. -/
theorem bound_src (n : Fin 16) (h : ℕ) (hh : h ≤ 6) (c : Dev nD) : bound n h (srcD n c) = bound n (h + 1) c := by
  have hc := dev_lt c
  refine Fin.ext ?_
  show (if n.val % 2 = 0 then ((srcD n c).val + 15 - h) % 8 else ((srcD n c).val + 1 + h) % 8)
    = if n.val % 2 = 0 then (c.val + 15 - (h + 1)) % 8 else (c.val + 1 + (h + 1)) % 8
  rw [srcD_val]
  split <;> omega

/-- The last device of a ring's round is the one the block belongs to. -/
theorem bound_end (n : Fin 16) (c : Dev nD) : (bound n 7 c).val = c.val := by
  have hc := dev_lt c
  show (if n.val % 2 = 0 then (c.val + 15 - 7) % 8 else (c.val + 1 + 7) % 8) = c.val
  split <;> omega

theorem rowsP_eq (n : Fin 16) (c : Dev nD) : rowsP n c = ![512 * (bound n 0 c).val, 0] := by
  have hc := dev_lt c
  unfold rowsP bound
  split
  · rw [k0_off1_eq]
    refine congrArg (fun t => ![512 * t, 0]) ?_
    show (c.val + 7) % 8 = (c.val + 15 - 0) % 8
    omega
  · exact k0_off2_eq c

theorem rowsH_eq (n : Fin 16) (h : Fin 7) (c : Dev nD) : rowsH n h.val c = ![512 * (bound n (h.val + 1) c).val, 0] := by
  have hc := dev_lt c
  have hh := h.isLt
  unfold rowsH bound
  split
  · rw [k0_off3_eq]
    refine congrArg (fun t => ![512 * t, 0]) ?_
    show (c.val + 14 - h.val) % 8 = (c.val + 15 - (h.val + 1)) % 8
    omega
  · rw [k0_off4_eq]
    refine congrArg (fun t => ![512 * t, 0]) ?_
    show (c.val + h.val + 2) % 8 = (c.val + 1 + (h.val + 1)) % 8
    omega

/-! ## One product -/

/-- Row `r` of block `q` of the rows. -/
def rowIn (q : Fin 8) (r : Fin 512) : Fin 4096 := ⟨512 * q.val + r.val, by have := q.isLt; have := r.isLt; omega⟩
/-- Column `l` of ring `n`'s strip. -/
def colIn (n : Fin 16) (l : Fin 512) : Fin 8192 := ⟨n.val % 2 * 4096 + n.val / 2 * 512 + l.val, by have := n.isLt; have := l.isLt; omega⟩

theorem xRead_at (off : Fin 2 → ℕ) (inb : ∀ a, off a + S512x512.size a ≤ S4096x512.size a) (q : Fin 8) (h : off = ![512 * q.val, 0])
    (f : FVec Ideal S4096x512 .bf16) (r k : Fin 512) :
    xRead (Rect.unit (s := S4096x512) off S512x512.size inb) f (ix2 r k) = f (ix2 (rowIn q r) k) := by
  subst h
  refine congrArg f ?_
  funext a
  refine Fin.ext ((Rect.emb_apply _ _ a).trans ?_)
  fin_cases a
  · show 512 * q.val + 1 * r.val = 512 * q.val + r.val; omega
  · show 0 + 1 * k.val = k.val; omega

theorem wRead_at (n : Fin 16) (f : FVec Ideal S512x8192 .bf16) (k l : Fin 512) : wRead n f (ix2 k l) = f (ix2 k (colIn n l)) := by
  refine congrArg f ?_
  funext a
  refine Fin.ext ((Rect.emb_apply _ _ a).trans ?_)
  fin_cases a
  · show 0 + 1 * k.val = k.val; omega
  · show n.val % 2 * 4096 + n.val / 2 * 512 + 1 * l.val = n.val % 2 * 4096 + n.val / 2 * 512 + l.val; omega

theorem prodV_at (x w : FVec Ideal S512x512 .bf16) (r l : Fin 512) :
    prodV (F := Ideal) x w (ix2 r l) = (∑ k : Fin 512, (x (ix2 r k) : EReal) * (w (ix2 k l) : EReal) : EReal) := by
  pointwise [prodV]

theorem addV_at (a : FVec Ideal S1x1x1x512x512 .bf16) (x w : FVec Ideal S512x512 .bf16) (r l : Fin 512) :
    addV (F := Ideal) a x w (ix2 r l) = ((a (ix5 0 0 0 r l) : EReal) + prodV (F := Ideal) x w (ix2 r l) : EReal) := by
  pointwise [addV]

theorem packV_at (a : FVec Ideal S512x512 .f32) (r l : Fin 512) : (packV (F := Ideal) a (ix5 0 0 0 r l) : EReal) = a (ix2 r l) := by
  pointwise [packV]

theorem closeV_at (a : FVec Ideal S512x512 .f32) (r l : Fin 512) : (closeV (F := Ideal) a (ix2 r l) : EReal) = max (a (ix2 r l) : EReal) 0 := by
  pointwise [closeV]

/-! ## A ring's sum -/

section Sum
variable (X : Dev nD → FVec Ideal S4096x512 .bf16) (Wt : Dev nD → FVec Ideal S512x8192 .bf16)

/-- Device `d`'s product for row `R` and column `l`. -/
def dotAt (d : Dev nD) (R : Fin 4096) (l : Fin 8192) : EReal := ∑ k : Fin 512, (X d (ix2 R k) : EReal) * (Wt d (ix2 k l) : EReal)

theorem dot_begin (n : Fin 16) (c : Dev nD) (r l : Fin 512) :
    (prodV (F := Ideal) (xRead (rowsPR n c) (X c)) (wRead n (Wt c)) (ix2 r l) : EReal) = dotAt X Wt c (rowIn (bound n 0 c) r) (colIn n l) := by
  rw [prodV_at]
  refine Finset.sum_congr rfl fun k _ => ?_
  rw [xRead_at _ _ _ (rowsP_eq n c), wRead_at]

theorem dot_hop (n : Fin 16) (h : Fin 7) (c : Dev nD) (r l : Fin 512) :
    (prodV (F := Ideal) (xRead (rowsHR n h c) (X c)) (wRead n (Wt c)) (ix2 r l) : EReal) = dotAt X Wt c (rowIn (bound n (h.val + 1) c) r) (colIn n l) := by
  rw [prodV_at]
  refine Finset.sum_congr rfl fun k _ => ?_
  rw [xRead_at _ _ _ (rowsH_eq n h c), wRead_at]

/-- After `h` additions a partial sum holds the products of the last `h + 1` devices up the ring. -/
theorem part_at (n : Fin 16) (r l : Fin 512) : ∀ (h : ℕ), h ≤ 6 → ∀ c : Dev nD,
    (part X Wt n h c (ix5 0 0 0 r l) : EReal) = ∑ j ∈ Finset.range (h + 1), dotAt X Wt ((srcD n)^[j] c) (rowIn (bound n h c) r) (colIn n l)
  | 0, _, c => by
    rw [Finset.sum_range_one]
    exact (packV_at _ r l).trans (dot_begin X Wt n c r l)
  | h + 1, hh, c => by
    have hk : hop h = (⟨h, by omega⟩ : Fin 7) := Fin.ext (Nat.mod_eq_of_lt (by omega))
    rw [Finset.sum_range_succ']
    refine (packV_at _ r l).trans ((addV_at _ _ _ r l).trans ?_)
    refine congrArg₂ (fun a b : EReal => a + b) ?_ ?_
    · rw [part_at n r l h (by omega) (srcD n c), bound_src n h (by omega) c]
      rfl
    · rw [dot_hop, hk]; rfl

/-- Up a ring, every device is met once. -/
theorem up_val (n : Fin 16) (c : Dev nD) : ∀ j : ℕ, ((srcD n)^[j] c).val = if n.val % 2 = 0 then (c.val + 7 * j) % 8 else (c.val + j) % 8
  | 0 => by
    have := dev_lt c
    show c.val = _
    split <;> omega
  | j + 1 => by
    rw [Function.iterate_succ_apply', srcD_val, up_val n c j]
    split <;> omega

theorem up_bijective (n : Fin 16) (c : Dev nD) : Function.Bijective fun j : Fin 8 => ((srcD n)^[j.val] c : Dev nD) := by
  refine (Fintype.bijective_iff_injective_and_card _).2 ⟨fun i j h => ?_, rfl⟩
  have hv : ((srcD n)^[i.val] c).val = ((srcD n)^[j.val] c).val := congrArg Fin.val h
  have hi := i.isLt
  have hj := j.isLt
  rw [up_val, up_val] at hv
  refine Fin.ext ?_
  split at hv <;> omega

/-- A strip of device `c`'s result: all eight products for its own block of rows, clamped below at zero. -/
theorem resV_at (n : Fin 16) (c : Dev nD) (r l : Fin 512) :
    (resV X Wt n c (ix2 r l) : EReal) = max (∑ d : Dev nD, dotAt X Wt d (rowIn ⟨c.val, c.isLt⟩ r) (colIn n l)) 0 := by
  have hb : bound n 7 c = ⟨c.val, c.isLt⟩ := Fin.ext (bound_end n c)
  refine (closeV_at _ r l).trans (congrArg (fun a : EReal => max a 0) ?_)
  refine (addV_at _ _ _ r l).trans ?_
  rw [part_at X Wt n r l 6 (by omega) (srcD n c), bound_src n 6 (by omega) c, dot_hop]
  rw [show bound n ((6 : Fin 7).val + 1) c = bound n 7 c from rfl, show bound n (6 + 1) c = bound n 7 c from rfl, hb]
  rw [← (up_bijective n c).sum_comp (fun d => dotAt X Wt d (rowIn ⟨c.val, c.isLt⟩ r) (colIn n l))]
  rw [← Fin.sum_univ_eq_sum_range (fun j => dotAt X Wt ((srcD n)^[j] (srcD n c)) (rowIn ⟨c.val, c.isLt⟩ r) (colIn n l)) 7]
  exact (add_comm _ _).trans (Fin.sum_univ_succ (fun j : Fin 8 => dotAt X Wt ((srcD n)^[j.val] c) (rowIn ⟨c.val, c.isLt⟩ r) (colIn n l))).symm

/-- The result on device `c`, index by index. -/
theorem outOf_at (c : Dev nD) (r : Fin 512) (l : Fin 8192) :
    (outOf X Wt c (ix2 r l) : EReal) = max (∑ d : Dev nD, dotAt X Wt d (rowIn ⟨c.val, c.isLt⟩ r) l) 0 := by
  have hl := l.isLt
  have hi : within (ix2 r l) = ix2 r (⟨l.val % 512, by omega⟩ : Fin 512) := by
    funext a
    refine Fin.ext ?_
    fin_cases a
    · show r.val - 0 = r.val; omega
    · show l.val - ((2 * (l.val / 512 % 8) + l.val / 512 / 8) % 2 * 4096 + (2 * (l.val / 512 % 8) + l.val / 512 / 8) / 2 * 512) = l.val % 512
      omega
  have hc : colIn (ringOf (ix2 r l)) (⟨l.val % 512, by omega⟩ : Fin 512) = l := by
    refine Fin.ext ?_
    show (2 * (l.val / 512 % 8) + l.val / 512 / 8) % 2 * 4096 + (2 * (l.val / 512 % 8) + l.val / 512 / 8) / 2 * 512 + l.val % 512 = l.val
    omega
  show (resV X Wt (ringOf (ix2 r l)) c (within (ix2 r l)) : EReal) = _
  rw [hi, resV_at, hc]

end Sum

end Cert.KernelIdeal.Rs
-- ==== Proof.Whole.lean ====
/-
The equation over the reals: the reference's product of the whole arrays, clamped below at zero, is block by block
what the rings leave on each device.
-/
module

public import proofs.«01_k».proof.Proof.Value
public import proofs.«01_k».proof.Proof.Gen.ReferenceIdeal.Run
public import Idealize.ShloMosaic.Lib.Layout

@[expose] public section

noncomputable section

namespace Cert.KernelIdeal.Rs

open Cert.KernelIdeal
open Idealize.ShloMosaic

/-- The whole first operand, the whole second operand and the whole result. -/
abbrev WholeX : Shape := ⟨2, ![4096, 4096]⟩
abbrev WholeW : Shape := ⟨2, ![4096, 8192]⟩

/-- What the reference leaves in its result. -/
def refV (x : FVec Ideal WholeX .bf16) (w : FVec Ideal WholeW .bf16) : FVec Ideal WholeW .bf16 :=
  truncf .bf16 (maximumf (Host.dotGeneral Cert.ReferenceIdeal.dot_S4096x4096_S4096x8192_S4096x8192_1_0_0_1_n_n none x w)
    (broadcastInDim Cert.ReferenceIdeal.S4096x8192 ![] Cert.ReferenceIdeal.Gen.bcast_S_S4096x8192 (constant (F := Ideal) Cert.ReferenceIdeal.S_ .f32 0x00000000#32)))
    Cert.ReferenceIdeal.Gen.bitsLt_bf16_f32

/-- The reference's result, index by index. -/
theorem refV_at (x : FVec Ideal WholeX .bf16) (w : FVec Ideal WholeW .bf16) (R : Fin 4096) (l : Fin 8192) :
    (refV x w (ix2 R l) : EReal) = max (∑ k : Fin 4096, (x (ix2 R k) : EReal) * (w (ix2 k l) : EReal)) 0 := by
  pointwise [refV]

/-- Column `k` of block `d` of the columns of the first operand; row `k` of block `d` of the rows of the second. -/
def inBlock (d : Dev nD) (k : Fin 512) : Fin 4096 := ⟨d.val * 512 + k.val, by have := dev_lt d; have := k.isLt; omega⟩

theorem x_block (x : FVec Ideal WholeX .bf16) (d : Dev nD) (R : Fin 4096) (k : Fin 512) :
    Layout.block ⟨2, ![4096, 512]⟩ WholeX 1 8 d x (by decide) (ix2 R k) = x (ix2 R (inBlock d k)) := by
  refine congrArg x ?_
  funext a
  refine Fin.ext ?_
  fin_cases a <;> rfl

theorem w_block (w : FVec Ideal WholeW .bf16) (d : Dev nD) (k : Fin 512) (l : Fin 8192) :
    Layout.block ⟨2, ![512, 8192]⟩ WholeW 0 8 d w (by decide) (ix2 k l) = w (ix2 (inBlock d k) l) := by
  refine congrArg w ?_
  funext a
  refine Fin.ext ?_
  fin_cases a <;> rfl

/-- Where each device holds its blocks of the operands, its result is its block of the reference's. -/
theorem outOf_block (x : FVec Ideal WholeX .bf16) (w : FVec Ideal WholeW .bf16)
    (X : Dev nD → FVec Ideal S4096x512 .bf16) (Wt : Dev nD → FVec Ideal S512x8192 .bf16)
    (hX : ∀ c, X c = Layout.block ⟨2, ![4096, 512]⟩ WholeX 1 8 c x (by decide))
    (hW : ∀ c, Wt c = Layout.block ⟨2, ![512, 8192]⟩ WholeW 0 8 c w (by decide)) (c : Dev nD) :
    outOf X Wt c = Layout.block ⟨2, ![512, 8192]⟩ WholeW 0 8 c (refV x w) (by decide) := by
  funext i
  obtain ⟨r, l, rfl⟩ : ∃ (r : Fin 512) (l : Fin 8192), i = ix2 r l := ⟨i 0, i 1, eq_ix2 i⟩
  rw [w_block (refV x w) c r l]
  refine (outOf_at X Wt c r l).trans ((refV_at x w (inBlock c r) l).trans ?_).symm
  refine congrArg (fun a : EReal => max a 0) ?_
  rw [Fin.sum_univ_tiles 8 512 rfl]
  refine Finset.sum_congr rfl fun d _ => Finset.sum_congr rfl fun k _ => ?_
  rw [hX, hW, x_block, w_block]
  have hR : inBlock c r = rowIn ⟨c.val, c.isLt⟩ r := Fin.ext (by show c.val * 512 + r.val = 512 * c.val + r.val; omega)
  rw [hR]
  rfl

end Cert.KernelIdeal.Rs
-- ==== Proof.lean ====
/-
The five claims: the kernel and its ideal reading run and leave their operands and counters as they were, the
reference does, the ideal reading is the kernel's own text, and over the reals each device's result is its block of
the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Whole
public import Idealize.ShloMosaic.Adequacy
public import Idealize.ShloMosaic.Init

@[expose] public section

noncomputable section

namespace Cert.Proof

open Idealize.ShloMosaic Idealize.SL.Sem Cert.Kernel

/-- The run of the kernel's ideal reading over any float values, its result forgotten. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (Cert.KernelIdeal.Rs.run_main (F := F) m ρ)

/-- The frame of the kernel's ideal reading. -/
theorem frame_ideal : Cert.quiescent_KernelIdeal := fun m ρ _ => frame_any (F := Ideal) m ρ

/-- The kernel's body and its ideal reading's are one text. -/
theorem body_same {F : FTy → Type} [FloatOps F] : @Cert.Kernel.cc0_body F _ _ = @Cert.KernelIdeal.cc0_body F _ _ := rfl

attribute [local irreducible] Cert.Kernel.cc0_body Cert.KernelIdeal.cc0_body in
/-- So are their tables of bodies. -/
theorem bodies_same {F : FTy → Type} [FloatOps F] : Cert.Kernel.defs₀ (F := F) = Cert.KernelIdeal.defs₀ (F := F) := by
  unfold Cert.Kernel.defs₀ Cert.KernelIdeal.defs₀
  rw [body_same]
  refine congrArg _ ?_
  funext l a
  obtain ⟨l, hl⟩ := l
  match l, hl, a with
  | 0, _, (t, s) => rfl

/-- The kernel's frame: its text is the ideal reading's, whose run is stated over any float values. -/
theorem frame_kernel : Cert.quiescent_Kernel := fun m ρ _ => by
  have h := frame_any (F := Bits) m ρ
  unfold Cert.KernelIdeal.defs at h
  rw [← bodies_same] at h
  exact h

/-- The reference's frame; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the reals the kernel's result on each device is its block of the reference's. -/
theorem algebraic : Cert.algebraic_KernelIdeal_ReferenceIdeal := fun m ρ m' ρ' _ hm =>
  ⟨Cert.KernelIdeal.Rs.refV (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).1.trans (Cert.KernelIdeal.Rs.outOf_block _ _ _ _ (fun d => (hm d).1) (fun d => (hm d).2) c), (h.1 c).2⟩)
      (Cert.KernelIdeal.Rs.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
